-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quantiser_inputs [hPre_quantiser_inputs : Cert.Pre_quantiser_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_quantiser_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quantiser_inputs [hPre_quantiser_inputs : Cert.Pre_quantiser_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quantiser_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_quantiser_inputs [hKernelIdeal : Cert.KernelIdeal.Facts] [hPre_quantiser_inputs : Cert.Pre_quantiser_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quantiser_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_quantiser_inputs [hReferenceIdeal : Cert.ReferenceIdeal.Facts] [hPre_quantiser_inputs : Cert.Pre_quantiser_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quantiser_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x3C008081#32 ((2 / 255 : ℝ) : EReal)

def algebraic_KernelIdeal_ReferenceIdeal_pre_quantiser_inputs [hKernelIdeal : Cert.KernelIdeal.Facts] [hReferenceIdeal : Cert.ReferenceIdeal.Facts] [hPre_quantiser_inputs : Cert.Pre_quantiser_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quantiser_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_quantiser_inputs : Cert.Pre_quantiser_inputs.Facts),
    quiescent_Kernel (hKernel := hKernel)
    ∧ quiescent_KernelIdeal (hKernelIdeal := hKernelIdeal)
    ∧ quiescent_KernelIdeal_pre_quantiser_inputs (hKernelIdeal := hKernelIdeal) (hPre_quantiser_inputs := hPre_quantiser_inputs)
    ∧ quiescent_ReferenceIdeal (hReferenceIdeal := hReferenceIdeal)
    ∧ quiescent_ReferenceIdeal_pre_quantiser_inputs (hReferenceIdeal := hReferenceIdeal) (hPre_quantiser_inputs := hPre_quantiser_inputs)
    ∧ preserves_Kernel_KernelIdeal
    ∧ algebraic_KernelIdeal_ReferenceIdeal_pre_quantiser_inputs (hKernelIdeal := hKernelIdeal) (hReferenceIdeal := hReferenceIdeal) (hPre_quantiser_inputs := hPre_quantiser_inputs)
-- ==== Pre_quantiser_inputs.lean ====
abbrev S262144x1 : Shape := ⟨2, ![262144, 1]⟩
abbrev S256 : Shape := ⟨1, ![256]⟩
abbrev S1x256 : Shape := ⟨2, ![1, 256]⟩
abbrev S262144x256 : Shape := ⟨2, ![262144, 256]⟩
abbrev S_ : Shape := ⟨0, ![]⟩
abbrev S262144 : Shape := ⟨1, ![262144]⟩
abbrev S255 : Shape := ⟨1, ![255]⟩
abbrev S1 : Shape := ⟨1, ![1]⟩

class Facts : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S262144x1_S262144x256_0_1 : S262144x1.BroadcastsInDim S262144x256 (![0, 1] : Fin 2 → Fin S262144x256.rank)
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S255 : S_.BroadcastsInDim S255 (![] : Fin 0 → Fin S255.rank)
  shapeCasts_S_S1 : S_.ShapeCasts S1
  bcast_S1_S255_0 : S1.BroadcastsInDim S255 (![0] : Fin 1 → Fin S255.rank)
  bcast_S_S1 : S_.BroadcastsInDim S1 (![] : Fin 0 → Fin S1.rank)
  concatenates_S255_S1_S256_d0 : Shape.Concatenates [S255, S1] S256 0
  reducesTo_S256_S_d0 : S256.ReducesTo [0] S_
  natLt_1_32 : 1 < 32
  bcast_S_S262144 : S_.BroadcastsInDim S262144 (![] : Fin 0 → Fin S262144.rank)
  reducesTo_S262144_S_d0 : S262144.ReducesTo [0] S_

variable [Facts]

def fn_linspace {F : FTy → Type} [FloatOps F] (arg0 : FVec F S_ .f32) (arg1 : FVec F S_ .f32) : FVec F S256 .f32 :=
  let v0 : FVec F S_ .f32 := id arg0
  let v1 : FVec F S_ .f32 := id arg1
  let v2 : FVec F S_ .f32 := subf v1 v0
  let cst : FVec F S_ .f32 := constant S_ .f32 0x437F0000#32
  let v3 : FVec F S_ .f32 := Host.divf v2 cst
  let v4 : FVec F S255 .f32 := sitofp .f32 (iotaInDim S255 32 0)
  let cst_0 : FVec F S_ .f32 := constant S_ .f32 0x437F0000#32
  let v5 : FVec F S255 .f32 := broadcastInDim S255 ![] bcast_S_S255 cst_0
  let v6 : FVec F S255 .f32 := Host.divf v4 v5
  let v7 : FVec F S1 .f32 := shapeCast S1 v0 shapeCasts_S_S1
  let cst_1 : FVec F S_ .f32 := constant S_ .f32 0x3F800000#32
  let v8 : FVec F S255 .f32 := broadcastInDim S255 ![] bcast_S_S255 cst_1
  let v9 : FVec F S255 .f32 := subf v8 v6
  let v10 : FVec F S255 .f32 := broadcastInDim S255 ![0] bcast_S1_S255_0 v7
  let v11 : FVec F S255 .f32 := mulf v10 v9
  let v12 : FVec F S1 .f32 := shapeCast S1 v1 shapeCasts_S_S1
  let v13 : FVec F S255 .f32 := broadcastInDim S255 ![0] bcast_S1_S255_0 v12
  let v14 : FVec F S255 .f32 := mulf v13 v6
  let v15 : FVec F S255 .f32 := addf v11 v14
  let v16 : FVec F S1 .f32 := broadcastInDim S1 ![] bcast_S_S1 v1
  let v17 : FVec F S256 .f32 := (fun a b => concatenate S256 0 [⟨S255, a⟩, ⟨S1, b⟩] concatenates_S255_S1_S256_d0) v15 v16
  v17

def fn_part1 {F : FTy → Type} [FloatOps F] (main_v10 : IVec S_ 1) (main_v16 : IVec S262144 1) (main_c_4 : IVec S_ 1) : IVec S_ 1 :=
  let main_v17 : IVec S_ 1 := (fun x v => Host.reduce IntOp.andi x v reducesTo_S262144_S_d0 h_S_) main_v16 main_c_4
  let main_v18 : IVec S_ 1 := andi main_v10 main_v17
  main_v18

def fn {F : FTy → Type} [FloatOps F] (main_arg0 : FVec F S262144x1 .f32) (main_arg1 : FVec F S256 .f32) : IVec S_ 1 :=
  let main_v0 : FVec F S262144x1 .f32 := Host.tanh main_arg0
  let main_v1 : FVec F S1x256 .f32 := broadcastInDim S1x256 ![1] bcast_S256_S1x256_1 main_arg1
  let main_v2 : FVec F S262144x256 .f32 := broadcastInDim S262144x256 ![0, 1] bcast_S1x256_S262144x256_0_1 main_v1
  let main_v3 : FVec F S262144x256 .f32 := broadcastInDim S262144x256 ![0, 1] bcast_S262144x1_S262144x256_0_1 main_v0
  let main_v4 : FVec F S262144x256 .f32 := subf main_v2 main_v3
  let main_v5 : FVec F S262144x256 .f32 := Host.absf main_v4
  let main_cst : FVec F S_ .f32 := constant S_ .f32 0x7F800000#32
  let main_v6 : FVec F S262144 .f32 := (fun x v => Host.reduce FloatOps.minimumf x v reducesTo_S262144x256_S262144_d1 h_S_) main_v5 main_cst
  let main_v7 : FVec F S262144x1 .f32 := broadcastInDim S262144x1 ![0] bcast_S262144_S262144x1_0 main_v6
  let main_cst_0 : FVec F S_ .f32 := constant S_ .f32 0xBF800000#32
  let main_cst_1 : FVec F S_ .f32 := constant S_ .f32 0x3F800000#32
  let main_v8 : FVec F S256 .f32 := fn_linspace (F := F) main_cst_0 main_cst_1
  let main_v9 : IVec S256 1 := cmpf .oeq main_arg1 main_v8
  let main_c : IVec S_ 1 := constantI S_ 1 1#1
  let main_v10 : IVec S_ 1 := (fun x v => Host.reduce IntOp.andi x v reducesTo_S256_S_d0 h_S_) main_v9 main_c
  let main_v11 : FVec F S262144x256 .f32 := broadcastInDim S262144x256 ![0, 1] bcast_S262144x1_S262144x256_0_1 main_v7
  let main_v12 : IVec S262144x256 1 := cmpf .oeq main_v5 main_v11
  let main_v13 : IVec S262144x256 32 := (extui 32 · natLt_1_32) main_v12
  let main_c_2 : IVec S_ 32 := constantI S_ 32 0#32
  let main_v14 : IVec S262144 32 := (fun x v => Host.reduce IntOp.addi x v reducesTo_S262144x256_S262144_d1 h_S_) main_v13 main_c_2
  let main_c_3 : IVec S_ 32 := constantI S_ 32 1#32
  let main_v15 : IVec S262144 32 := broadcastInDim S262144 ![] bcast_S_S262144 main_c_3
  let main_v16 : IVec S262144 1 := cmpi .eq main_v14 main_v15
  let main_c_4 : IVec S_ 1 := constantI S_ 1 1#1
  fn_part1 (F := F) main_v10 main_v16 main_c_4
-- ==== Kernel.lean ====
abbrev S262144x1 : Shape := ⟨2, ![262144, 1]⟩
abbrev S256 : Shape := ⟨1, ![256]⟩
abbrev S262144 : Shape := ⟨1, ![262144]⟩
abbrev S8192 : Shape := ⟨1, ![8192]⟩
abbrev S_ : Shape := ⟨0, ![]⟩
abbrev S16 : Shape := ⟨1, ![16]⟩

abbrev nBuf : Table → Nat
  | .hbm => 7
  | .local .scVector .vmem => 3
  | _ => 0

abbrev bufTy : (tb : Table) → Fin (nBuf tb) → BufTy
  | .hbm, ⟨0, _⟩ => ⟨S262144x1, .f32⟩
  | .hbm, ⟨1, _⟩ => ⟨S256, .f32⟩
  | .hbm, ⟨2, _⟩ => ⟨S262144, .f32⟩
  | .hbm, ⟨3, _⟩ => ⟨S262144, .f32⟩
  | .hbm, ⟨4, _⟩ => ⟨S262144, .i32⟩
  | .hbm, ⟨5, _⟩ => ⟨S262144x1, .f32⟩
  | .hbm, ⟨6, _⟩ => ⟨S262144x1, .i32⟩
  | .local .scVector .vmem, ⟨0, _⟩ => ⟨S8192, .f32⟩
  | .local .scVector .vmem, ⟨1, _⟩ => ⟨S8192, .f32⟩
  | .local .scVector .vmem, ⟨2, _⟩ => ⟨S8192, .i32⟩
  | _, _ => ⟨S262144x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32 : BitVec 32 := 16#32
  let v4 : BitVec 32 := Scalar.muli arg9 c16_i32
  let v5 : Index := Scalar.indexCast v4
  ![v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "step" => some ((2 / 255 : ℝ) : EReal)
  | _ => none
-- ==== ReferenceIdeal.lean ====
abbrev S262144x1 : Shape := ⟨2, ![262144, 1]⟩
abbrev S256 : Shape := ⟨1, ![256]⟩
abbrev S1x256 : Shape := ⟨2, ![1, 256]⟩
abbrev S262144x256 : Shape := ⟨2, ![262144, 256]⟩
abbrev S262144 : Shape := ⟨1, ![262144]⟩
abbrev S_ : Shape := ⟨0, ![]⟩
abbrev S1 : Shape := ⟨1, ![1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S262144x1, .f32⟩
  | .hbm, ⟨1, _⟩ => ⟨S256, .f32⟩
  | .hbm, ⟨2, _⟩ => ⟨S262144x1, .f32⟩
  | .hbm, ⟨3, _⟩ => ⟨S1x256, .f32⟩
  | .hbm, ⟨4, _⟩ => ⟨S262144x256, .f32⟩
  | .hbm, ⟨5, _⟩ => ⟨S262144x256, .f32⟩
  | .hbm, ⟨6, _⟩ => ⟨S262144x256, .f32⟩
  | .hbm, ⟨7, _⟩ => ⟨S262144x256, .f32⟩
  | .hbm, ⟨8, _⟩ => ⟨S262144x256, .i32⟩
  | .hbm, ⟨9, _⟩ => ⟨S262144x256, .f32⟩
  | .hbm, ⟨10, _⟩ => ⟨S262144x256, .i32⟩
  | .hbm, ⟨11, _⟩ => ⟨S262144x1, .i32⟩
  | .hbm, ⟨12, _⟩ => ⟨S262144, .i32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S1, .i32⟩
  | .hbm, ⟨22, _⟩ => ⟨S_, .i32⟩
  | .hbm, ⟨23, _⟩ => ⟨S262144x1, .i32⟩
  | .hbm, ⟨24, _⟩ => ⟨S262144x1, .i1⟩
  | .hbm, ⟨25, _⟩ => ⟨S1x1, .i32⟩
  | .hbm, ⟨26, _⟩ => ⟨S262144x1, .i32⟩
  | .hbm, ⟨27, _⟩ => ⟨S262144x1, .i1⟩
  | .hbm, ⟨28, _⟩ => ⟨S262144x1, .i1⟩
  | .hbm, ⟨29, _⟩ => ⟨S_, .i1⟩
  | .hbm, ⟨30, _⟩ => ⟨S262144, .i1⟩
  | .hbm, ⟨31, _⟩ => ⟨S262144, .f32⟩
  | .hbm, ⟨32, _⟩ => ⟨S_, .f32⟩
  | .hbm, ⟨33, _⟩ => ⟨S262144, .f32⟩
  | .hbm, ⟨34, _⟩ => ⟨S262144, .f32⟩
  | .hbm, ⟨35, _⟩ => ⟨S262144x1, .f32⟩
  | .hbm, ⟨36, _⟩ => ⟨S262144x1, .f32⟩
  | .hbm, ⟨37, _⟩ => ⟨S262144x1, .f32⟩
  | .hbm, ⟨38, _⟩ => ⟨S262144x1, .i32⟩
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩

abbrev nD : Nat := 1
abbrev τ : Topo := Topo.v7x

variable {F : FTy → Type} [FloatOps F]
-- ==== Proof.IdealTile.lean ====
/-
  One task of the quantiser's SparseCore kernel, run on a vector subcore: it fetches its 8192 elements of `x`, quantises
  them sixteen lanes at a time, and writes the quantised values and the level numbers out to the same 8192 places of the
  two results. What a task leaves is stated elementwise: `value a` and `level a` are what the kernel computes of one
  element `a`, and every place of the task's stretch holds them of the element of `x` there.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_v0
abbrev qLoc (d : Dev nD) : Loc nD τ sig := (SparseCore.T d).loc main_v1_0
abbrev nLoc (d : Dev nD) : Loc nD τ sig := (SparseCore.T d).loc main_v1_1

local notation "xV" => (Memref.whole Cert.KernelIdeal.main_v0_scv : Memref Cert.KernelIdeal.sig Kind.scVector Space.hbm Cert.KernelIdeal.S262144 EltTy.f32)
local notation "lV" => (Memref.whole Cert.KernelIdeal.main_arg1_scv : Memref Cert.KernelIdeal.sig Kind.scVector Space.hbm Cert.KernelIdeal.S256 EltTy.f32)
local notation "qV" => (Memref.whole Cert.KernelIdeal.main_v1_0_scv : Memref Cert.KernelIdeal.sig Kind.scVector Space.hbm Cert.KernelIdeal.S262144 EltTy.f32)
local notation "nV" => (Memref.whole Cert.KernelIdeal.main_v1_1_scv : Memref Cert.KernelIdeal.sig Kind.scVector Space.hbm Cert.KernelIdeal.S262144 EltTy.i32)
local notation "xS" => (Memref.whole Cert.KernelIdeal.cc0_scratch0 : Memref Cert.KernelIdeal.sig Kind.scVector Space.vmem Cert.KernelIdeal.S8192 EltTy.f32)
local notation "qS" => (Memref.whole Cert.KernelIdeal.cc0_scratch1 : Memref Cert.KernelIdeal.sig Kind.scVector Space.vmem Cert.KernelIdeal.S8192 EltTy.f32)
local notation "nS" => (Memref.whole Cert.KernelIdeal.cc0_scratch2 : Memref Cert.KernelIdeal.sig Kind.scVector Space.vmem Cert.KernelIdeal.S8192 EltTy.i32)

/-! ## What the kernel computes of one element -/

section Value

variable [FloatOps F] [Named F]

/-- A lane of a sixteen-lane vector, the first. -/
def lane0 : S16.Idx := fun | 0 => ⟨0, show 0 < 16 by decide⟩

/-- The level number the kernel finds for the element `a`. -/
def level (a : F .f32) : BitVec 32 := k0_pay3 (fun _ => a) lane0

/-- The quantised value the kernel finds for the element `a`. -/
def value (a : F .f32) : F .f32 := k0_pay2 (fun _ => a) lane0

/-- The kernel's vector of level numbers is lane by lane. -/
theorem pay3_apply (v : S16.Idx → F .f32) (l : S16.Idx) : k0_pay3 v l = level (v l) := by
  unfold level k0_pay3 k0_pay1
  simp only [shapeCast_self]
  rfl

/-- The kernel's vector of quantised values is lane by lane. -/
theorem pay2_apply (v : S16.Idx → F .f32) (l : S16.Idx) : k0_pay2 v l = value (v l) := by
  unfold value k0_pay2 k0_pay1
  simp only [shapeCast_self]
  rfl

end Value

/-! ## A task's stretch of the arrays -/

abbrev cV (L : grid0.Coords) : Fin τ.nSC := (L 0).castLE hcore0
abbrev jV (L : grid0.Coords) : Fin τ.nSub := (L 1).castLE hsub0

/-- The 8192 places of task `L`. -/
abbrev stretch (L : grid0.Coords) : Rect S262144 := Rect.unit (s := S262144) (k0_off1 L) S8192.size (k0_off1_inb L)

/-- Place `y` is task `L`'s when `y` lies in the 8192 places from `(2 · L 1 + L 0) · 8192` on. -/
theorem mem_stretch (L : grid0.Coords) (y : S262144.Idx) :
    y ∈ (stretch L).set ↔ 16384 * (L 1).val + 8192 * (L 0).val ≤ (y 0).val ∧ (y 0).val < 16384 * (L 1).val + 8192 * (L 0).val + 8192 := by
  rw [Rect.mem_set_unit, k0_off1_eq]
  constructor
  · intro h; exact h 0
  · intro h a
    match a with
    | 0 => exact h

abbrev xK (L : grid0.Coords) : Memref sig .scVector .hbm S8192 .f32 := (xV).slice (stretch L) (fun _ => rfl)
abbrev qK (L : grid0.Coords) : Memref sig .scVector .hbm S8192 .f32 := (qV).slice (stretch L) (fun _ => rfl)
abbrev nK (L : grid0.Coords) : Memref sig .scVector .hbm S8192 .i32 := (nV).slice (stretch L) (fun _ => rfl)

theorem set_xK (L : grid0.Coords) : (xK L).view.set = (stretch L).set := by
  show ((View.whole (main_v0_scv : Ref sig .scVector)).slice (stretch L)).set = _
  rw [View.set_slice]; exact Finset.map_refl
theorem set_qK (L : grid0.Coords) : (qK L).view.set = (stretch L).set := by
  show ((View.whole (main_v1_0_scv : Ref sig .scVector)).slice (stretch L)).set = _
  rw [View.set_slice]; exact Finset.map_refl
theorem set_nK (L : grid0.Coords) : (nK L).view.set = (stretch L).set := by
  show ((View.whole (main_v1_1_scv : Ref sig .scVector)).slice (stretch L)).set = _
  rw [View.set_slice]; exact Finset.map_refl

section Tile

variable [FloatOps F] [Named F] (d : Dev nD) (L : grid0.Coords)

/-- The stretch of `x`, of the quantised values, of the level numbers, as the arrays' owner holds them. -/
abbrev xPts (X : S262144.Idx → F .f32) : sProp 𝕄 := xLoc d ↦[(stretch L).set]{fullShare} X
abbrev qPts (f : S262144.Idx → F .f32) : sProp 𝕄 := qLoc d ↦[(stretch L).set]{fullShare} f
abbrev nPts (f : S262144.Idx → BitVec 32) : sProp 𝕄 := nLoc d ↦[(stretch L).set]{fullShare} f

omit [FloatOps F] [Named F] in
theorem pts_xK (f : S262144.Idx → F .f32) :
    ((xK L).view.loc (V d (cV L) (jV L)) ↦[(xK L).view.set]{fullShare} f : sProp 𝕄) = xPts d L f := by
  rw [set_xK]
omit [FloatOps F] [Named F] in
theorem pts_qK (f : S262144.Idx → F .f32) :
    ((qK L).view.loc (V d (cV L) (jV L)) ↦[(qK L).view.set]{fullShare} f : sProp 𝕄) = qPts d L f := by
  rw [set_qK]
omit [FloatOps F] [Named F] in
theorem pts_nK (f : S262144.Idx → BitVec 32) :
    ((nK L).view.loc (V d (cV L) (jV L)) ↦[(nK L).view.set]{fullShare} f : sProp 𝕄) = nPts d L f := by
  rw [set_nK]

abbrev cell0 (d : Dev nD) (L : grid0.Coords) : GSem nD τ sig := (V d (cV L) (jV L), .dma cc0_scoped0.sem)
abbrev cell1 (d : Dev nD) (L : grid0.Coords) : GSem nD τ sig := (V d (cV L) (jV L), .dma cc0_scoped1.sem)
abbrev cell2 (d : Dev nD) (L : grid0.Coords) : GSem nD τ sig := (V d (cV L) (jV L), .dma cc0_scoped2.sem)

omit [FloatOps F] [Named F] in
/-- The subcore's own semaphores: the three of the transfers, and the rest. -/
theorem ownSems0_V :
    (ownSems0 (V d (cV L) (jV L)) : sProp 𝕄)
      = iprop(semVal (cell0 d L) 0 ∗ semVal (cell1 d L) 0 ∗ semVal (cell2 d L) 0
          ∗ bigSep ((((ownCells (V d (cV L) (jV L))).erase (cell0 d L)).erase (cell1 d L)).erase (cell2 d L)) fun g => semVal g 0) := by
  have h0 : cell0 d L ∈ ownCells (V d (cV L) (jV L)) :=
    mem_ownCells.mpr ⟨rfl, by show (SemLoc.dma cc0_scoped0.sem : SemLoc sig).isScoped .scVector = true; decide⟩
  have h1 : cell1 d L ∈ ownCells (V d (cV L) (jV L)) :=
    mem_ownCells.mpr ⟨rfl, by show (SemLoc.dma cc0_scoped1.sem : SemLoc sig).isScoped .scVector = true; decide⟩
  have h2 : cell2 d L ∈ ownCells (V d (cV L) (jV L)) :=
    mem_ownCells.mpr ⟨rfl, by show (SemLoc.dma cc0_scoped2.sem : SemLoc sig).isScoped .scVector = true; decide⟩
  have n10 : cell1 d L ≠ cell0 d L := by simp [cell0, cell1]; decide
  have n20 : cell2 d L ≠ cell0 d L := by simp [cell0, cell2]; decide
  have n21 : cell2 d L ≠ cell1 d L := by simp [cell1, cell2]; decide
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

abbrev sref (b : Ref sig .scVector) : DevRef τ sig := (Proc.scVector (cV L) (jV L)).devRef b

omit [FloatOps F] [Named F] in
/-- The subcore's own buffers: the three scratch buffers, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (sref L cc0_scratch0)).erase (sref L cc0_scratch1)).erase (sref L cc0_scratch2))
              fun b => iprop(∃ f, ((d, b) : Loc nD τ sig) ↦{fullShare} f)) := by
  have hm : ∀ b : Ref sig .scVector, (sref L b).owner = (sref L cc0_scratch0).owner →
      sref L b ∈ ownRefs (τ := τ) (.scVector (cV L) (jV L)) := fun b hb =>
    SparseCore.Cfg.mem_ownRefs_of_owner (p := Proc.scVector (cV L) (jV L)) (b := sref L b) hb
  have hne : ∀ b b' : Ref sig .scVector, b ≠ b' → sref L b ≠ sref L b' := fun b b' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide),
      Finset.mem_erase.mpr ⟨hne cc0_scratch2 cc0_scratch0 (by decide), hm cc0_scratch2 rfl⟩⟩)]

/-- The task's loop after `k` trips: the fetched elements `a` are in place, and the first `16 · k` lanes of the two
    outgoing buffers hold what the kernel computes of them. -/
def inv (a : S8192.Idx → F .f32) (k : Nat) (_ : Unit) : sProp 𝕄 :=
  iprop(((xS).view.loc (V d (cV L) (jV L)) ↦{fullShare} a)
    ∗ (∃ f : S8192.Idx → F .f32, ⌜∀ y : S8192.Idx, (y 0).val < 16 * k → f y = value (a y)⌝ ∗ (qS).view.loc (V d (cV L) (jV L)) ↦{fullShare} f)
    ∗ ∃ g : S8192.Idx → BitVec 32, ⌜∀ y : S8192.Idx, (y 0).val < 16 * k → g y = level (a y)⌝ ∗ (nS).view.loc (V d (cV L) (jV L)) ↦{fullShare} g)

/-- One trip's store, into either outgoing buffer: when the first `16 · k` lanes hold `G` of the fetched elements and the
    sixteen lanes stored are `G` of the elements at their places, the first `16 · (k + 1)` lanes do. -/
theorem lanes_step {e : EltTy} {sp : Space} (v : View sig .scVector sp S8192 e) (f : v.ty.Contents (Elt F)) (a : S8192.Idx → F .f32)
    (G : F .f32 → Elt F e) (k : Fin k0_t1_loop.trips) (w : S16.Idx → Elt F e)
    (hf : ∀ y : S8192.Idx, (y 0).val < 16 * k.val → v.read (Elt F) f y = G (a y))
    (hw : ∀ l : S16.Idx, w l = G (a ((Rect.unit (s := S8192) (k0_off2 k) S16.size (k0_off2_inb k)).toLoadRect.idx l))) :
    ∀ y : S8192.Idx, (y 0).val < 16 * (k.val + 1) →
      v.read (Elt F) (v.writes (Elt F) f [⟨Rect.unit (s := S8192) (k0_off2 k) S16.size (k0_off2_inb k), w⟩]) y = G (a y) := by
  intro y hy
  by_cases h : 16 * k.val ≤ (y 0).val
  · have hl : (y 0).val - 16 * k.val < 16 := by omega
    let x : S16.Idx := fun | 0 => ⟨(y 0).val - 16 * k.val, hl⟩
    have hx : ∀ c : Fin 1, (y c).val = (![16 * k.val] : Fin 1 → ℕ) c + (x c).val := by
      intro c
      match c with
      | 0 => show (y 0).val = 16 * k.val + ((y 0).val - 16 * k.val); omega
    refine (View.read_writes_cons_unit_of_mem v f (k0_off2_inb k) w [] y x (k0_off2_eq k) hx).trans ?_
    rw [hw]
    congr 2
    funext c
    refine Fin.ext ?_
    rw [hx c]
    show k0_off2 k c + 1 * _ = _
    rw [congrFun (k0_off2_eq k) c, Nat.one_mul]
  · refine (View.read_writes_cons_unit_of_not_mem v f (k0_off2_inb k) w [] y (k0_off2_eq k) 0 (Or.inl ?_)).trans (hf y (by omega))
    show (y 0).val < 16 * k.val
    omega

/-- The loop's sixteen-lane trips cover the 8192 elements. -/
theorem trips_cover (y : S8192.Idx) : (y 0).val < 16 * Scf.trips k0_t1_loop.lb k0_t1_loop.ub k0_t1_loop.st := by
  rw [show Scf.trips k0_t1_loop.lb k0_t1_loop.ub k0_t1_loop.st = 512 by decide]
  exact (y 0).isLt

/-- What a view reads of itself after the whole of it was written. -/
theorem whole_written {e : EltTy} {sp : Space} (v : View sig .scVector sp S8192 e) (f : v.ty.Contents (Elt F)) (w : S8192.Idx → Elt F e) (y : S8192.Idx) :
    v.read (Elt F) (v.writes (Elt F) f [⟨Rect.whole S8192, w⟩]) y = w y := by
  have h := View.read_writes_cons_emb v f (Rect.whole S8192) w [] y
  rwa [show (Rect.whole S8192).emb y = y from funext fun a => Fin.ext (by show 0 + 1 * (y a).val = (y a).val; omega)] at h

/-- The quantised values as the task wrote them out, against those the whole array is to hold. -/
theorem qPts_written (X fq : S262144.Idx → F .f32) (w : S8192.Idx → F .f32) (hw : ∀ y, w y = value ((xK L).view.read (Elt F) X y)) :
    ((qK L).view.loc (V d (cV L) (jV L)) ↦[(qK L).view.set]{fullShare} (qK L).view.writes (Elt F) fq [⟨Rect.whole S8192, w⟩] : sProp 𝕄)
      = qPts d L (fun y => value (X y)) := by
  rw [← pts_qK]
  refine pointsTo_congr fun i hi => ?_
  obtain ⟨y, -, rfl⟩ := Finset.mem_map.mp hi
  have e := whole_written (F := F) (qK L).view fq w y
  have hx : (xK L).view.read (Elt F) X y = X ((qK L).view.emb y) := (View.read_apply _ _).trans (cast_eq _ _)
  rw [View.read_apply, cast_eq, hw y, hx] at e
  exact e

/-- The level numbers as the task wrote them out, against those the whole array is to hold. -/
theorem nPts_written (X : S262144.Idx → F .f32) (fn : S262144.Idx → BitVec 32) (w : S8192.Idx → BitVec 32)
    (hw : ∀ y, w y = level (F := F) ((xK L).view.read (Elt F) X y)) :
    ((nK L).view.loc (V d (cV L) (jV L)) ↦[(nK L).view.set]{fullShare} (nK L).view.writes (Elt F) fn [⟨Rect.whole S8192, w⟩] : sProp 𝕄)
      = nPts d L (fun y => level (F := F) (X y)) := by
  rw [← pts_nK]
  refine pointsTo_congr fun i hi => ?_
  obtain ⟨y, -, rfl⟩ := Finset.mem_map.mp hi
  have e := whole_written (F := F) (nK L).view fn w y
  have hx : (xK L).view.read (Elt F) X y = X ((nK L).view.emb y) := (View.read_apply _ _).trans (cast_eq _ _)
  rw [View.read_apply, cast_eq, hw y, hx] at e
  exact e

set_option maxHeartbeats 4000000 in
/-- The task `L` of device `d`: from its stretch of `x`, and of the two results at whatever they hold, it leaves `x` and
    the two results with, at each place, the value and the level number of the element of `x` there. -/
theorem tile_body (hF : (K (F := F)).Facts) (X : S262144.Idx → F .f32) (O : CellTallies nD τ sig (HIx 1)) (W : Waits sig (HIx 1)) (hO : ∀ g, O g none = 0) :
    iprop(levAts (K (F := F)).L (K (F := F)).lev ∗ emp
        ∗ (xPts d L X ∗ (∃ f, qPts d L f) ∗ ∃ f, nPts d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__quantize_body L xV (Memref.isWhole_whole _) lV (Memref.isWhole_whole _) qV (Memref.isWhole_whole _) nV (Memref.isWhole_whole _)
            xS (Memref.isWhole_whole _) qS (Memref.isWhole_whole _) nS (Memref.isWhole_whole _) cc0_scoped0 cc0_scoped1 cc0_scoped2)
          fun _ => iprop((xPts d L X ∗ qPts d L (fun y => value (X y)) ∗ nPts d L (fun y => level (X y)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__quantize_body_eq_skeleton]; unfold cc0__quantize_body_skel
  rw [(K (F := F)).scopedBufs_V hF d (cV L) (jV L), SparseCore.Cfg.scopedSems0_V (Val := Elt F) d (cV L) (jV L), ownSems0_V, ownBufs_V]
  iintro ⟨#Hlv, -, ⟨Hx, ⟨%fq, Hq⟩, %fn, Hn⟩, ⟨⟨%sx, Hsx⟩, ⟨%sq, Hsq⟩, ⟨%sn, Hsn⟩, Hbufs⟩, ⟨Hc0, Hc1, Hc2, Hcells⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (Entails.of_eq (pts_xK d L X).symm) $$ Hx
  ihave Hq := (Entails.of_eq (pts_qK d L fq).symm) $$ Hq
  ihave Hn := (Entails.of_eq (pts_nK d L fn).symm) $$ Hn
  ihave Hsx := (Entails.of_eq (show ((V d (cV L) (jV L)).loc cc0_scratch0 ↦{fullShare} sx : sProp 𝕄) = (xS).view.loc (V d (cV L) (jV L)) ↦{fullShare} sx from rfl)) $$ Hsx
  ihave Hsq := (Entails.of_eq (show ((V d (cV L) (jV L)).loc cc0_scratch1 ↦{fullShare} sq : sProp 𝕄) = (qS).view.loc (V d (cV L) (jV L)) ↦{fullShare} sq from rfl)) $$ Hsq
  ihave Hsn := (Entails.of_eq (show ((V d (cV L) (jV L)).loc cc0_scratch2 ↦{fullShare} sn : sProp 𝕄) = (nS).view.loc (V d (cV L) (jV L)) ↦{fullShare} sn from rfl)) $$ Hsn
  sl_exec
  sl_for (inv d L ((xK L).view.read (Elt F) X)) $$ [Hsx Hsq Hsn]
  case region =>
    intro k _
    unfold inv
    iintro ⟨Hsx, ⟨%f, %hf, Hsq⟩, %g, %hg, Hsn⟩
    sl_exec
    sl_step
    isplitl [Hsx]; · iexact Hsx
    isplitl [Hsq]
    · iexists _; isplitr
      swap; · iexact Hsq
      ipureintro
      exact lanes_step (qS).view f ((xK L).view.read (Elt F) X) value k _ hf fun l => pay2_apply _ l
    · iexists _; isplitr
      swap; · iexact Hsn
      ipureintro
      exact lanes_step (nS).view g ((xK L).view.read (Elt F) X) level k _ hg fun l => pay3_apply _ l
  · unfold inv
    isplitl [Hsx]
    · rw [View.write_whole_univ]; iexact Hsx
    isplitl [Hsq]
    · iexists sq; isplitr
      swap; · iexact Hsq
      ipureintro; exact fun y hy => absurd hy (by omega)
    · iexists sn; isplitr
      swap; · iexact Hsn
      ipureintro; exact fun y hy => absurd hy (by omega)
  iintro %_ HI
  unfold inv
  icases HI with ⟨Hsx, ⟨%f, %hf, Hsq⟩, %g, %hg, Hsn⟩
  sl_exec
  sl_step
  isplitl [Hx Hq Hn]
  · isplitl [Hx]; · iapply (Entails.of_eq (pts_xK d L X)); iexact Hx
    isplitl [Hq]
    · iapply (Entails.of_eq (qPts_written d L X fq f fun y => hf y (trips_cover y))); iexact Hq
    · iapply (Entails.of_eq (nPts_written d L X fn g fun y => hg y (trips_cover y))); iexact Hn
  isplitl [Hsx Hsq Hsn Hbufs]
  · isplitl [Hsx]; · iexists _; iexact Hsx
    isplitl [Hsq]; · iexists _; iexact Hsq
    isplitl [Hsn]; · iexists _; iexact Hsn
    iexact Hbufs
  isplitl [Hc0 Hc1 Hc2 Hcells]
  · isplitl [Hc0]; · iexact Hc0
    isplitl [Hc1]; · iexact Hc1
    isplitl [Hc2]; · iexact Hc2
    iexact Hcells
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.IdealRun

end
-- ==== Proof.IdealRun.lean ====
/-
  The quantiser's kernel program as a whole: @main reshapes `x` to one axis, the two SparseCores' thirty-two tasks quantise
  it stretch by stretch, and @main reshapes the two results back. `run_main` states what every execution leaves: the
  arguments as they were, every semaphore at zero, and the two results elementwise in `x`.
-/
module

public import proofs.«01_k».proof.Proof.IdealTile

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F] [Named F]

abbrev D : Defs nD τ sig (Elt F) (ΛP (F := F)) := Pipeline.defs pcfgs defs₀

local notation "𝕄" => MT nD τ sig (HIx 1) (Elt F) ℕ UU ℕ

variable (m : (ℓ : Loc nD τ sig) → Buf (Elt F) ℓ) (ρ : Dev nD → PrngReg)

abbrev aLoc (d : Dev nD) : Loc nD τ sig := (SparseCore.T d).loc main_arg0
abbrev lLoc (d : Dev nD) : Loc nD τ sig := (SparseCore.T d).loc main_arg1
abbrev qOutLoc (d : Dev nD) : Loc nD τ sig := (SparseCore.T d).loc main_v2
abbrev nOutLoc (d : Dev nD) : Loc nD τ sig := (SparseCore.T d).loc main_v3

/-- `x` on one axis, as the call takes it. -/
def flat (d : Dev nD) : S262144.Idx → F .f32 := shapeCast S262144 (m (aLoc d)) shapeCasts_S262144x1_S262144

/-- The quantised values and the level numbers of a one-axis `x`. -/
def values (X : S262144.Idx → F .f32) : S262144.Idx → F .f32 := fun y => value (X y)
def levels (X : S262144.Idx → F .f32) : S262144.Idx → BitVec 32 := fun y => level (X y)

/-! ## What the call carries -/

/-- The task on tile `s` of SparseCore `c`. -/
def task (c : Fin 2) (s : Fin 16) : grid0.Coords :=
  fun | 0 => c | 1 => s | ⟨_ + 2, h⟩ => absurd h (Nat.not_lt.2 (Nat.le_add_left _ _))

/-- A task takes its stretch of `x` and of the two results, and brings them back quantised. -/
abbrev given (d : Dev nD) (X : S262144.Idx → F .f32) (c : Fin 2) (s : Fin 16) : sProp 𝕄 :=
  iprop(xPts d (task c s) X ∗ (∃ f, qPts d (task c s) f) ∗ ∃ f, nPts d (task c s) f)
abbrev brought (d : Dev nD) (X : S262144.Idx → F .f32) (c : Fin 2) (s : Fin 16) : sProp 𝕄 :=
  iprop(xPts d (task c s) X ∗ qPts d (task c s) (values X) ∗ nPts d (task c s) (levels X))

/-- A SparseCore takes what its sixteen tasks take. -/
def P : (K (F := F)).Pay (nD := nD) (Val := Elt F) (Name := ℕ) (U := UU) where
  st := fun q d c => match q with | 0 => bigSep Finset.univ fun s : Fin 16 => given d (flat m d) (Fin.cast nCore_zero c) s
  dn := fun q d c => match q with | 0 => bigSep Finset.univ fun s : Fin 16 => brought d (flat m d) (Fin.cast nCore_zero c) s
  go := fun q d c i => match q with | 0 => given d (flat m d) (Fin.cast nCore_zero c) (Fin.cast nSub_zero i)
  td := fun q d c i => match q with | 0 => brought d (flat m d) (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => given d (flat m d) (Fin.cast nCore_zero c) s))
  dn q d c := match q with
    | 0 => (inferInstance : BI.Storable (upEmb : UEmb _ 𝕄) (bigSep Finset.univ fun s : Fin 16 => brought d (flat m d) (Fin.cast nCore_zero c) s))
  go q d c i := match q with
    | 0 => (inferInstance : BI.Storable (upEmb : UEmb _ 𝕄) (given d (flat m d) (Fin.cast nCore_zero c) (Fin.cast nSub_zero i)))
  td q d c i := match q with
    | 0 => (inferInstance : BI.Storable (upEmb : UEmb _ 𝕄) (brought d (flat m d) (Fin.cast nCore_zero c) (Fin.cast nSub_zero i)))

/-! ## The launch's obligations -/

theorem defs₀_vector (c : Fin τ.nSC) (s : Fin τ.nSub) :
    defs₀ (F := F) (.scVector c s) 0 ()
      = SparseCore.onTile hcore0 hsub0 (fun c s => cc0__quantize_body (task c s)
          (Memref.whole main_v0_scv) (Memref.isWhole_whole _) (Memref.whole main_arg1_scv) (Memref.isWhole_whole _)
          (Memref.whole main_v1_0_scv) (Memref.isWhole_whole _) (Memref.whole main_v1_1_scv) (Memref.isWhole_whole _)
          (Memref.whole cc0_scratch0) (Memref.isWhole_whole _) (Memref.whole cc0_scratch1) (Memref.isWhole_whole _)
          (Memref.whole cc0_scratch2) (Memref.isWhole_whole _) cc0_scoped0 cc0_scoped1 cc0_scoped2) ⟨⟩ c s := rfl

omit [FloatOps F] [Named F] in
/-- Waits charged to no call may be charged to call `q`. -/
theorem waits_widen {thr : Thread nD τ} {O : CellTallies nD τ sig (HIx 1)} {W : Waits sig (HIx 1)} (q : Fin 1) :
    iprop(∃ W', ⌜∀ p ∈ W', p ∈ W ∨ p.2 = none⌝ ∗ owes thr O W')
      ⊢ (iprop(∃ W', ⌜∀ p ∈ W', p ∈ W ∨ p.2 = none ∨ p.2 = some q⌝ ∗ owes thr O W') : sProp 𝕄) :=
  exists_mono fun _ => sep_mono_left (Laws.pure_mono fun h p hp => (h p hp).elim Or.inl fun e => Or.inr (Or.inl e))

set_option maxRecDepth 16384 in
/-- Every tile's task meets its contract. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (task ⟨_, hci.1⟩ ⟨_, hci.2⟩) facts (flat m d) O W hO).trans (wp_mono frame _ _ fun _ =>
    sep_mono_right (sep_mono_right (sep_mono_right (waits_widen 0))))

/-- A SparseCore's share is its tasks' shares, going out and coming back. -/
theorem vecSplit : (K (F := F)).VecSplit' (P m) 0 := fun d c => by
  show (bigSep Finset.univ fun s : Fin 16 => given d (flat m d) (Fin.cast nCore_zero c) s) ⊢ |={Set.univ}=> iprop(
      (bigSep Finset.univ fun s : Fin 16 => given d (flat m d) (Fin.cast nCore_zero c) s)
      ∗ ((bigSep Finset.univ fun s : Fin 16 => brought d (flat m d) (Fin.cast nCore_zero c) s)
          -∗ bigSep Finset.univ fun s : Fin 16 => brought d (flat m d) (Fin.cast nCore_zero c) s))
  iintro Hgo; imodintro
  isplitl [Hgo]
  · iexact Hgo
  · iintro Hback; iexact Hback

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [hx, hd]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The thirty-two stretches make the arrays -/

/-- The stretch of the task numbered by a pair. -/
abbrev cut (p : Fin 2 × Fin 16) : Finset S262144.Idx := (stretch (task p.1 p.2)).set

theorem mem_cut (p : Fin 2 × Fin 16) (y : S262144.Idx) :
    y ∈ cut p ↔ 16384 * p.2.val + 8192 * p.1.val ≤ (y 0).val ∧ (y 0).val < 16384 * p.2.val + 8192 * p.1.val + 8192 :=
  mem_stretch (task p.1 p.2) y

theorem cut_disjoint : ∀ p ∈ (Finset.univ : Finset (Fin 2 × Fin 16)), ∀ p' ∈ (Finset.univ : Finset (Fin 2 × Fin 16)), p ≠ p' → Disjoint (cut p) (cut p') := by
  intro p _ p' _ hne
  rw [Finset.disjoint_left]
  intro y h h'
  rw [mem_cut] at h h'
  have h1 := p.1.isLt; have h2 := p'.1.isLt
  apply hne
  refine Prod.ext (Fin.ext ?_) (Fin.ext ?_) <;> omega

theorem cut_cover : (Finset.univ : Finset (Fin 2 × Fin 16)).biUnion cut = Finset.univ := by
  refine Finset.eq_univ_iff_forall.mpr fun y => Finset.mem_biUnion.mpr ?_
  have hy : (y 0).val < 262144 := (y 0).isLt
  refine ⟨(⟨(y 0).val / 8192 % 2, by omega⟩, ⟨(y 0).val / 16384, by omega⟩), Finset.mem_univ _, (mem_cut _ y).mpr ?_⟩
  constructor <;> dsimp only <;> omega

omit [FloatOps F] [Named F] in
theorem whole_cut {ℓ : Loc nD τ sig} (c : Fin 2 × Fin 16 → Finset (Idx ℓ))
    (hd : ∀ p ∈ (Finset.univ : Finset (Fin 2 × Fin 16)), ∀ p' ∈ (Finset.univ : Finset (Fin 2 × Fin 16)), p ≠ p' → Disjoint (c p) (c p'))
    (hc : (Finset.univ : Finset (Fin 2 × Fin 16)).biUnion c = Finset.univ) (f : Buf (Elt F) ℓ) :
    (ℓ ↦{fullShare} f : sProp 𝕄) = bigSep Finset.univ fun a : Fin 2 => bigSep Finset.univ fun b : Fin 16 => ℓ ↦[c (a, b)]{fullShare} f := by
  rw [← bigSep_univ_prod (fun p : Fin 2 × Fin 16 => (ℓ ↦[c p]{fullShare} f : sProp 𝕄)), ← pointsTo_biUnion Finset.univ c hd, hc]

omit [FloatOps F] [Named F] in
/-- The three arrays whole are the thirty-two tasks' stretches of them. -/
theorem arrays_cut (d : Dev nD) (X f : S262144.Idx → F .f32) (g : S262144.Idx → BitVec 32) :
    (bigSep Finset.univ fun c : Fin 2 => bigSep Finset.univ fun s : Fin 16 =>
        (iprop(xPts d (task c s) X ∗ qPts d (task c s) f ∗ nPts d (task c s) g) : sProp 𝕄))
      = iprop((xLoc d ↦{fullShare} X) ∗ (qLoc d ↦{fullShare} f) ∗ (nLoc d ↦{fullShare} g)) := by
  rw [whole_cut (ℓ := xLoc d) cut cut_disjoint cut_cover, whole_cut (ℓ := qLoc d) cut cut_disjoint cut_cover,
    whole_cut (ℓ := nLoc d) cut cut_disjoint cut_cover]
  rw [← bigSep_sep', ← bigSep_sep']
  refine bigSep_congr fun c _ => ?_
  rw [← bigSep_sep', ← bigSep_sep']

/-- What the call takes: `x` on one axis, and the two results at whatever they hold. -/
theorem st0_of (d : Dev nD) (f : S262144.Idx → F .f32) (g : S262144.Idx → BitVec 32) :
    (iprop((xLoc d ↦{fullShare} flat m d) ∗ (qLoc d ↦{fullShare} f) ∗ (nLoc d ↦{fullShare} g)) : sProp 𝕄)
      ⊢ bigSep Finset.univ fun c : Fin ((K (F := F)).nCore 0) => (P m).st 0 d c := by
  show _ ⊢ bigSep (Finset.univ : Finset (Fin 2)) fun c => bigSep Finset.univ fun s : Fin 16 => given d (flat m d) c s
  rw [← arrays_cut]
  refine bigSep_mono fun c _ => bigSep_mono fun s _ => ?_
  show iprop(xPts d (task c s) (flat m d) ∗ qPts d (task c s) f ∗ nPts d (task c s) g)
    ⊢ iprop(xPts d (task c s) (flat m d) ∗ (∃ f, qPts d (task c s) f) ∗ ∃ f, nPts d (task c s) f)
  iintro ⟨Hx, Hq, Hn⟩
  isplitl [Hx]; · iexact Hx
  isplitl [Hq]; · iexists f; iexact Hq
  iexists g; iexact Hn

/-- What the call hands back: the two results quantised. -/
theorem dn0_eq (d : Dev nD) :
    (bigSep Finset.univ fun c : Fin ((K (F := F)).nCore 0) => (P m).dn 0 d c)
      = iprop((xLoc d ↦{fullShare} flat m d) ∗ (qLoc d ↦{fullShare} values (flat m d)) ∗ (nLoc d ↦{fullShare} levels (flat m d))) := by
  rw [← arrays_cut]
  rfl

/-! ## @main -/

abbrev ref (b : Ref sig .tc) : DevRef τ sig := Proc.devRef .tc b
abbrev opX : HloOp τ sig (Elt F) := StableHlo.reshape main_arg0 main_v0 (rfl : (.f32 : EltTy) = .f32) shapeCasts_S262144x1_S262144
abbrev opQ : HloOp τ sig (Elt F) := StableHlo.reshape main_v1_0 main_v2 (rfl : (.f32 : EltTy) = .f32) shapeCasts_S262144_S262144x1
abbrev opN : HloOp τ sig (Elt F) := StableHlo.reshape main_v1_1 main_v3 (rfl : (.i32 : EltTy) = .i32) shapeCasts_S262144_S262144x1

/-- @main's arrays, and the three the call works on. -/
abbrev S7 : Finset (DevRef τ sig) := {ref main_arg0, ref main_arg1, ref main_v0, ref main_v1_0, ref main_v1_1, ref main_v2, ref main_v3}
abbrev S3 : Finset (DevRef τ sig) := {ref main_v0, ref main_v1_0, ref main_v1_1}

/-- The contents at the launch, after the first reshape, after the call, at the end. -/
def V0 (d : Dev nD) : Valuation τ sig (Elt F) := fun b => m (d, b)
def V1 (d : Dev nD) : Valuation τ sig (Elt F) := (opX (F := F)).result (V0 m d)
def V2 (d : Dev nD) : Valuation τ sig (Elt F) :=
  Function.update (Function.update (V1 m d) (ref main_v1_0) (values (flat m d))) (ref main_v1_1) (levels (flat m d))
def V4 (d : Dev nD) : Valuation τ sig (Elt F) := (opN (F := F)).result ((opQ (F := F)).result (V2 m d))

omit [FloatOps F] [Named F] in
theorem held_S3 (d : Dev nD) (W : Valuation τ sig (Elt F)) :
    (held (T d) S3 W : sProp 𝕄) = iprop((xLoc d ↦{fullShare} W (ref main_v0)) ∗ (qLoc d ↦{fullShare} W (ref main_v1_0)) ∗ nLoc d ↦{fullShare} W (ref main_v1_1)) := by
  unfold held S3
  rw [SparseCore.bigSep_insert' (by decide), SparseCore.bigSep_insert' (by decide), bigSep_singleton]

omit [FloatOps F] [Named F] in
theorem unscoped_held (d : Dev nD) : (unscopedBufs d (fun b => m ((SparseCore.T d).loc b)) : sProp 𝕄) = held (T d) S7 (V0 m d) := by
  unfold unscopedBufs held S7
  rw [show (Finset.univ.filter fun b : Ref sig .tc => ¬ b.isScoped) = {main_arg0, main_arg1, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

omit [FloatOps F] [Named F] in
theorem V1_x (d : Dev nD) : V1 m d (ref main_v0) = flat m d :=
  (StableHlo.reshape_result main_arg0 main_v0 rfl shapeCasts_S262144x1_S262144 _ _ (V0 m d)).trans rfl

theorem V2_x (d : Dev nD) : V2 m d (ref main_v0) = flat m d := by
  unfold V2
  rw [Function.update_of_ne (by decide), Function.update_of_ne (by decide), V1_x]
theorem V2_q (d : Dev nD) : V2 m d (ref main_v1_0) = values (flat m d) := by
  unfold V2
  rw [Function.update_of_ne (by decide), Function.update_self]
theorem V2_n (d : Dev nD) : V2 m d (ref main_v1_1) = levels (flat m d) := by
  unfold V2
  rw [Function.update_self]
theorem V2_rest (d : Dev nD) (b : DevRef τ sig) (hq : b ≠ ref main_v1_0) (hn : b ≠ ref main_v1_1) : V2 m d b = V1 m d b := by
  unfold V2
  rw [Function.update_of_ne hn, Function.update_of_ne hq]

/-- The results at the end: the one-axis values and level numbers, reshaped to a column. -/
def valuesOut (d : Dev nD) : S262144x1.Idx → F .f32 := shapeCast S262144x1 (values (flat m d)) shapeCasts_S262144_S262144x1
def levelsOut (d : Dev nD) : S262144x1.Idx → BitVec 32 := shapeCast S262144x1 (levels (flat m d)) shapeCasts_S262144_S262144x1

theorem opX_sub : (opX (F := F)).bufs ⊆ S7 := show ({ref main_arg0, ref main_v0} : Finset (DevRef τ sig)) ⊆ S7 by decide
theorem opQ_sub : (opQ (F := F)).bufs ⊆ S7 := show ({ref main_v1_0, ref main_v2} : Finset (DevRef τ sig)) ⊆ S7 by decide
theorem opN_sub : (opN (F := F)).bufs ⊆ S7 := show ({ref main_v1_1, ref main_v3} : Finset (DevRef τ sig)) ⊆ S7 by decide

theorem opX_other (b : DevRef τ sig) (h : b ≠ ref main_v0) (W : Valuation τ sig (Elt F)) : (opX (F := F)).result W b = W b :=
  (opX (F := F)).result_of_not_mem W (show b ∉ ({ref main_v0} : Finset (DevRef τ sig)) from fun e => h (Finset.mem_singleton.mp e))
theorem opQ_other (b : DevRef τ sig) (h : b ≠ ref main_v2) (W : Valuation τ sig (Elt F)) : (opQ (F := F)).result W b = W b :=
  (opQ (F := F)).result_of_not_mem W (show b ∉ ({ref main_v2} : Finset (DevRef τ sig)) from fun e => h (Finset.mem_singleton.mp e))
theorem opN_other (b : DevRef τ sig) (h : b ≠ ref main_v3) (W : Valuation τ sig (Elt F)) : (opN (F := F)).result W b = W b :=
  (opN (F := F)).result_of_not_mem W (show b ∉ ({ref main_v3} : Finset (DevRef τ sig)) from fun e => h (Finset.mem_singleton.mp e))

/-- An array no reshape after the call writes. -/
theorem V4_rest (d : Dev nD) (b : DevRef τ sig) (hq : b ≠ ref main_v2) (hn : b ≠ ref main_v3) : V4 m d b = V2 m d b := by
  unfold V4
  rw [opN_other b hn, opQ_other b hq]

theorem V4_arg0 (d : Dev nD) : V4 m d (ref main_arg0) = m (aLoc d) := by
  rw [V4_rest m d _ (by decide) (by decide), V2_rest m d _ (by decide) (by decide), V1, opX_other _ (by decide)]; rfl
theorem V4_arg1 (d : Dev nD) : V4 m d (ref main_arg1) = m (lLoc d) := by
  rw [V4_rest m d _ (by decide) (by decide), V2_rest m d _ (by decide) (by decide), V1, opX_other _ (by decide)]; rfl
theorem V4_q (d : Dev nD) : V4 m d (ref main_v2) = valuesOut m d := by
  unfold V4
  rw [opN_other _ (by decide)]
  refine (StableHlo.reshape_result main_v1_0 main_v2 rfl shapeCasts_S262144_S262144x1 _ _ (V2 m d)).trans ?_
  rw [V2_q]; rfl
theorem V4_n (d : Dev nD) : V4 m d (ref main_v3) = levelsOut m d := by
  unfold V4
  refine (StableHlo.reshape_result main_v1_1 main_v3 rfl shapeCasts_S262144_S262144x1 _ _ ((opQ (F := F)).result (V2 m d))).trans ?_
  rw [opQ_other _ (by decide), V2_n]; rfl

/-- What @main leaves the claim: the arguments as they were, the results as computed. -/
abbrev FIN (d : Dev nD) : sProp 𝕄 :=
  iprop((aLoc d ↦{fullShare} m (aLoc d)) ∗ (lLoc d ↦{fullShare} m (lLoc d)) ∗ (qOutLoc d ↦{fullShare} valuesOut m d) ∗ (nOutLoc d ↦{fullShare} levelsOut m d))

abbrev S4 : Finset (DevRef τ sig) := {ref main_arg0, ref main_arg1, ref main_v2, ref main_v3}

theorem held_V4 (d : Dev nD) : (held (T d) S4 (V4 m d) : sProp 𝕄) = FIN m d := by
  unfold held S4
  rw [SparseCore.bigSep_insert' (by decide), SparseCore.bigSep_insert' (by decide), SparseCore.bigSep_insert' (by decide), bigSep_singleton,
    V4_arg0, V4_arg1, V4_q, V4_n]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- `x` on one axis
  iapply (wp_hlo_within 𝒱 (SparseCore.T d) none Set.univ (op := opX) (S := S7) opX_sub (V := V0 m d)) $$ [Hb Hheld]
  · isplitl [Hb] <;> iassumption
  iintro ⟨Hb, Hheld⟩
  rw [wp_ret]; imodintro
  ihave Hh := (Entails.of_eq (show (held (T d) S7 ((opX (F := F)).result (V0 m d)) : sProp 𝕄) = iprop(held (T d) S3 (V1 m d) ∗ held (T d) (S7 \ S3) (V1 m d)) from
    held_sub_split (T d) (T := S3) (S := S7) (by decide) (V1 m d))) $$ Hheld
  icases Hh with ⟨H3, Hrest⟩
  ihave H3 := (Entails.of_eq (held_S3 (F := F) d (V1 m d))) $$ H3
  rw [V1_x]
  -- the call
  iapply ((K (F := F)).wp_run (D (F := F)) 𝒱 (EH := EH) (P := P m) κ d 0) $$ [Hst H3 Hb Hrest Hts]
  isplitr; · iexact Hctx
  isplitl [Hst]; · iexact Hst
  isplitl [H3]
  · iapply (st0_of m d _ _); iexact H3
  iintro ⟨Hst, Hdn⟩
  ihave H3 := (Entails.of_eq (dn0_eq m d)) $$ Hdn
  -- the results back to a column
  iapply (wp_hlo_within 𝒱 (SparseCore.T d) none Set.univ (op := opQ) (S := S7) opQ_sub (V := V2 m d)) $$ [Hb H3 Hrest]
  · isplitl [Hb]; · iexact Hb
    iapply (Entails.of_eq (held_sub_split (T d) (T := S3) (S := S7) (by decide) (V2 m d)).symm)
    isplitl [H3]
    · rw [held_S3, V2_x, V2_q, V2_n]; iexact H3
    · rw [held_congr (T d) (S := S7 \ S3) (V := V2 m d) (V' := V1 m d) fun b hb =>
        V2_rest m d b (fun e => by subst e; revert hb; decide) (fun e => by subst e; revert hb; decide)]
      iexact Hrest
  iintro ⟨Hb, Hheld⟩
  rw [wp_ret]; imodintro
  iapply (wp_hlo_within 𝒱 (SparseCore.T d) none Set.univ (op := opN) (S := S7) opN_sub (V := (opQ (F := F)).result (V2 m d))) $$ [Hb Hheld]
  · isplitl [Hb] <;> iassumption
  iintro ⟨Hb, Hheld⟩
  rw [wp_ret]; imodintro; imodintro
  ihave Hh := (Entails.of_eq (show (held (T d) S7 ((opN (F := F)).result ((opQ (F := F)).result (V2 m d))) : sProp 𝕄)
      = iprop(held (T d) S4 (V4 m d) ∗ held (T d) (S7 \ S4) (V4 m d)) from
    held_sub_split (T d) (T := S4) (S := S7) (by decide) (V4 m d))) $$ Hheld
  icases Hh with ⟨H4, -⟩
  isplitl [Hst]; · iexact Hst
  isplitl [H4]; · iapply (Entails.of_eq (held_V4 m d)); iexact H4
  isplitl [Hb] <;> iassumption

/-! ## The run -/

/-- The arguments unchanged and the results as computed, of device `d`'s memory. -/
def done (d : Dev nD) (mem : (ℓ : Loc nD τ sig) → Buf (Elt F) ℓ) : Prop :=
  mem (aLoc d) = m (aLoc d) ∧ mem (lLoc d) = m (lLoc d) ∧ mem (qOutLoc d) = valuesOut m d ∧ mem (nOutLoc d) = levelsOut m d

omit [FloatOps F] [Named F] in
theorem agree (s' : Phys nD τ sig (Elt F)) (ℓ : Loc nD τ sig) (f : Buf (Elt F) ℓ) (R : sProp 𝕄) :
    iprop((ℓ ↦{fullShare} f) ∗ R ∗ SI s') ⊢ iprop(⌜s'.mem.mem ℓ = f⌝ ∗ R ∗ SI s') := by
  iintro ⟨H, HR, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  isplitl [HR] <;> iassumption

set_option maxRecDepth 16384 in
theorem hfin (d : Dev nD) (s' : Phys nD τ sig (Elt F)) : iprop(FIN m d ∗ SI s') ⊢ (⌜done m d s'.mem.mem⌝ : sProp 𝕄) := by
  iintro ⟨⟨Ha, Hl, Hq, Hn⟩, HSI⟩
  ihave H := (agree s' (aLoc d) (m (aLoc d)) iprop(emp)) $$ [Ha HSI]
  · isplitl [Ha]; · iexact Ha
    isplitr; · iempintro
    iexact HSI
  icases H with ⟨%h1, -, HSI⟩
  ihave H := (agree s' (lLoc d) (m (lLoc d)) iprop(emp)) $$ [Hl HSI]
  · isplitl [Hl]; · iexact Hl
    isplitr; · iempintro
    iexact HSI
  icases H with ⟨%h2, -, HSI⟩
  ihave H := (agree s' (qOutLoc d) (valuesOut m d) iprop(emp)) $$ [Hq HSI]
  · isplitl [Hq]; · iexact Hq
    isplitr; · iempintro
    iexact HSI
  icases H with ⟨%h3, -, HSI⟩
  ihave H := (agree s' (nOutLoc d) (levelsOut m d) iprop(emp)) $$ [Hn HSI]
  · isplitl [Hn]; · iexact Hn
    isplitr; · iempintro
    iexact HSI
  icases H with ⟨%h4, -, -⟩
  ipureintro; exact ⟨h1, h2, h3, h4⟩

/-- Every execution ends with the arguments unchanged, the results the kernel's elementwise functions of `x`, and every
    semaphore at zero. -/
theorem run_main [∀ e, Nonempty (Elt F e)] :
    θ_run (Cert.KernelIdeal.defs (F := F)) (Cert.KernelIdeal.threads (F := F)) ⟨m, fun _ => 0, ρ⟩
      (fun r => (∀ d : Dev nD, done m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => done m d s'.mem.mem) (hfin m) _
    (fun _ h hz => ⟨h, hz⟩)

end Cert.Proof.IdealRun

end
-- ==== Proof.Quantise.lean ====
/-
  What the kernel computes of one element, at exact real arithmetic. With `place a = 255 / (1 + e^(-2a))`, a real between
  0 and 255 at every extended real `a`, the hyperbolic tangent of `a` is `-1 + 2 · place a / 255`, so the level nearest to
  it among `-1 + 2i/255` is the integer `i` nearest to `place a`. The kernel takes `⌊place a + 1/2⌋`.
-/
module

public import proofs.«01_k».proof.Proof.IdealTile
public import Idealize.ShloMosaic.PureOps.Ideal.Laws
public import Idealize.ShloMosaic.Lib.IdealHost
public import Idealize.ShloMosaic.Lib.StableHlo.Predicate

@[expose] public section

noncomputable section

namespace Cert.Proof.Quantise

open Idealize.ShloMosaic Cert.KernelIdeal Cert.KernelIdeal.Gen Cert.Proof.IdealRun

/-! ## The float constants -/

theorem two_word : Ideal.ofBits .f32 0xC0000000#32 = ((-2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem top_word : Ideal.ofBits .f32 0x437F0000#32 = ((255 : ℝ) : EReal) := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

/-! ## Where an element falls among the levels -/

/-- The place of `tanh a` on the scale where level `i` stands at `i`: a real between 0 and 255. -/
def place : EReal → ℝ
  | ⊥ => 0
  | ⊤ => 255
  | (r : ℝ) => 255 / (1 + Real.exp (-2 * r))

theorem place_coe (r : ℝ) : place (r : EReal) = 255 / (1 + Real.exp (-2 * r)) := rfl

theorem place_nonneg (a : EReal) : 0 ≤ place a := by
  induction a using EReal.rec with
  | bot => exact le_refl _
  | top => show (0 : ℝ) ≤ 255; norm_num
  | coe r => rw [place_coe]; positivity

theorem place_le (a : EReal) : place a ≤ 255 := by
  induction a using EReal.rec with
  | bot => show (0 : ℝ) ≤ 255; norm_num
  | top => exact le_refl _
  | coe r =>
    rw [place_coe, div_le_iff₀ (by positivity)]
    nlinarith [Real.exp_pos (-2 * r)]

/-- The kernel's quotient `255 / (1 + exp (-2 a))` is `place a`, at the infinities too. -/
theorem quotient_eq (a : EReal) :
    Ideal.div ((255 : ℝ) : EReal) (((1 : ℝ) : EReal) + Ideal.exp (a * ((-2 : ℝ) : EReal))) = (place a : EReal) := by
  induction a using EReal.rec with
  | bot =>
    rw [EReal.bot_mul_coe_of_neg (by norm_num), Ideal.exp_top, EReal.add_top_of_ne_bot (EReal.coe_ne_bot 1)]
    show _ = ((0 : ℝ) : EReal)
    simp [Ideal.div]
  | top =>
    rw [EReal.top_mul_coe_of_neg (by norm_num), Ideal.exp_bot, add_zero, Ideal.div_coe (by norm_num), ← EReal.coe_mul]
    show _ = ((255 : ℝ) : EReal)
    norm_num
  | coe r =>
    have hp : (1 + Real.exp (r * -2) : ℝ) ≠ 0 := by positivity
    rw [← EReal.coe_mul, Ideal.exp_coe, ← EReal.coe_add, Ideal.div_coe hp, ← EReal.coe_mul, place_coe, mul_one_div,
      mul_comm r (-2)]

/-- The hyperbolic tangent of any extended real, by its place. -/
theorem tanh_eq (a : EReal) : Ideal.tanh a = ((-1 + 2 * place a / 255 : ℝ) : EReal) := by
  induction a using EReal.rec with
  | bot =>
    show (-1 : EReal) = ((-1 + 2 * 0 / 255 : ℝ) : EReal)
    norm_num
  | top =>
    show (1 : EReal) = ((-1 + 2 * 255 / 255 : ℝ) : EReal)
    norm_num
  | coe r =>
    show ((Real.tanh r : ℝ) : EReal) = _
    rw [place_coe]
    congr 1
    have h1 : Real.exp r * Real.exp (-r) = 1 := by rw [← Real.exp_add, add_neg_cancel, Real.exp_zero]
    have h2 : Real.exp (-2 * r) = Real.exp (-r) * Real.exp (-r) := by rw [← Real.exp_add]; congr 1; ring
    have hpos : 0 < Real.exp r := Real.exp_pos r
    have hneg : 0 < Real.exp (-r) := Real.exp_pos (-r)
    rw [Real.tanh_eq_sinh_div_cosh, Real.sinh_eq, Real.cosh_eq, h2]
    field_simp
    nlinarith [h1]

/-- The integer nearest to `place a`, the upper one of two equally near. -/
def nearest (a : EReal) : ℤ := ⌊place a + 1 / 2⌋

theorem nearest_nonneg (a : EReal) : 0 ≤ nearest a := Int.floor_nonneg.mpr (by linarith [place_nonneg a])

theorem nearest_lt (a : EReal) : nearest a < 256 := by
  refine Int.floor_lt.mpr ?_
  have := place_le a
  push_cast
  linarith

/-- The number of the level the kernel picks. -/
def pick (a : EReal) : Fin 256 := ⟨(nearest a).toNat, by have := nearest_nonneg a; have := nearest_lt a; omega⟩

theorem pick_cast (a : EReal) : ((pick a).val : ℝ) = (nearest a : ℝ) := by
  have h : ((nearest a).toNat : ℤ) = nearest a := Int.toNat_of_nonneg (nearest_nonneg a)
  show ((nearest a).toNat : ℝ) = _
  exact_mod_cast congrArg (Int.cast : ℤ → ℝ) h

/-- The level of number `q`. -/
def lv (q : Fin 256) : ℝ := -1 + 2 * q.val / 255

/-- No integer is nearer to `place a` than the one the kernel picks. -/
theorem nearest_min (a : EReal) (z : ℤ) : |(nearest a : ℝ) - place a| ≤ |(z : ℝ) - place a| := by
  have hlo : (nearest a : ℝ) ≤ place a + 1 / 2 := Int.floor_le _
  have hhi : place a + 1 / 2 < (nearest a : ℝ) + 1 := Int.lt_floor_add_one _
  have hn : |(nearest a : ℝ) - place a| ≤ 1 / 2 := abs_le.mpr ⟨by linarith, by linarith⟩
  rcases lt_trichotomy z (nearest a) with h | h | h
  · have hz : (z : ℝ) + 1 ≤ (nearest a : ℝ) := by exact_mod_cast h
    refine hn.trans ?_
    rw [abs_of_nonpos (by linarith)]
    linarith
  · rw [h]
  · have hz : (nearest a : ℝ) + 1 ≤ (z : ℝ) := by exact_mod_cast h
    refine hn.trans ?_
    rw [abs_of_nonneg (by linarith)]
    linarith

/-- The distance of `tanh a` from level `q`. -/
def dist (a : EReal) (q : Fin 256) : ℝ := |lv q - (-1 + 2 * place a / 255)|

theorem dist_eq (a : EReal) (q : Fin 256) : dist a q = 2 / 255 * |(q.val : ℝ) - place a| := by
  unfold dist lv
  rw [← abs_of_pos (show (0 : ℝ) < 2 / 255 by norm_num), ← abs_mul]
  congr 1
  ring

/-- No level is nearer to `tanh a` than the one the kernel picks. -/
theorem pick_min (a : EReal) (q : Fin 256) : dist a (pick a) ≤ dist a q := by
  rw [dist_eq, dist_eq, pick_cast]
  have := nearest_min a (q.val : ℤ)
  push_cast at this
  exact mul_le_mul_of_nonneg_left this (by norm_num)

/-! ## The kernel's two results at one element -/

/-- The word that the kernel's conversion to an integer gives. -/
theorem word_eq (a : EReal) : Ideal.fptosi 32 (((place a : ℝ) : EReal) + ((1 / 2 : ℝ) : EReal)) = BitVec.ofNat 32 (pick a).val := by
  have h0 := nearest_nonneg a
  have h1 := nearest_lt a
  rw [← EReal.coe_add, Ideal.fptosi, Ideal.toIntClamped_coe, if_pos (by linarith [place_nonneg a])]
  show BitVec.ofInt 32 (max _ (min _ (nearest a))) = _
  have hm : max (-((2 ^ (32 - 1) : Nat) : ℤ)) (min (((2 ^ (32 - 1) : Nat) : ℤ) - 1) (nearest a)) = ((nearest a).toNat : ℤ) := by
    rw [Int.toNat_of_nonneg h0]
    norm_num
    omega
  rw [hm, BitVec.ofInt_natCast]
  rfl

theorem pick_toNat (a : EReal) : (BitVec.ofNat 32 (pick a).val).toNat = (pick a).val := by
  rw [BitVec.toNat_ofNat]
  exact Nat.mod_eq_of_lt (by have := (pick a).isLt; omega)

/-- The kernel's level number of `a`. -/
theorem level_eq (a : EReal) : level (F := Ideal) a = BitVec.ofNat 32 (pick a).val := by
  unfold level k0_pay3 k0_pay1
  simp only [shapeCast_self]
  show IntOp.minsi (IntOp.maxsi (Ideal.fptosi 32 (Ideal.div (Ideal.ofBits .f32 0x437F0000#32) (Ideal.ofBits .f32 0x3F800000#32
    + Ideal.exp (a * Ideal.ofBits .f32 0xC0000000#32)) + Ideal.ofBits .f32 0x3F000000#32)) 0#32) 255#32 = _
  rw [two_word, one_word, top_word, half_word, quotient_eq, word_eq]
  refine StableHlo.Predicate.clamp_eval _ _ (by decide) ?_
  rw [pick_toNat]
  exact Nat.le_of_lt_succ (pick a).isLt

/-- The kernel's quantised value of `a`: the level of the number it picks. -/
theorem value_eq (a : EReal) : value (F := Ideal) a = ((lv (pick a) : ℝ) : EReal) := by
  have hl := level_eq a
  unfold level k0_pay3 at hl
  simp only [shapeCast_self] at hl
  unfold value k0_pay2
  simp only [shapeCast_self]
  show (((k0_pay1 (F := Ideal) (fun _ => a) lane0).toInt : ℝ) : EReal) * Named.named (F := Ideal) (φ := .f32) κ "step" 0x3C008081#32
    - Ideal.ofBits .f32 0x3F800000#32 = _
  rw [hl, one_word, IdealRules.named_const.ideal_named_scalar κ "step" _ ((2 / 255 : ℝ) : EReal) rfl,
    StableHlo.Predicate.toInt_ofNat_small _ (by have := (pick a).isLt; omega), ← EReal.coe_mul, ← EReal.coe_sub]
  congr 1
  unfold lv
  push_cast
  ring

end Cert.Proof.Quantise

end
-- ==== Proof.Reference.lean ====
/-
  The reference's two results read at a row, at exact real arithmetic. The reference sorts each row of distances together
  with the column numbers; the first column number of the sorted row is that of a column whose distance is least
  (`first_le`), the second result is that number (`numbers_apply`), and the first is the table's entry there, once the
  entry is a real number (`through_apply`).
-/
module

public import proofs.«01_k».proof.Proof.Quantise
public import proofs.«01_k».proof.Proof.Gen.ReferenceIdeal
public import proofs.«01_k».proof.Proof.Gen.ReferenceIdeal.Run
public import Idealize.ShloMosaic.Lib.SortFacts
public import Idealize.ShloMosaic.Lib.ReduceAll
public import Idealize.ShloMosaic.Lib.ValueIdxCore

@[expose] public section

noncomputable section

namespace Cert.Proof.Reference

open Idealize.ShloMosaic Idealize.ShloMosaic.TcCoe Idealize.SL.Sem
open Cert.ReferenceIdeal Cert.ReferenceIdeal.Gen
open Idealize.ShloMosaic.StableHlo.Predicate (ij ixP bcast_cols bcast_of_col bcast_col1 bcast_scalar gather_take ofBool_eq_one_iff
  toInt_ofNat_small sle_ofNat_iff slt_ofNat_iff)

/-! ## The head of a sorted row -/

/-- A stable sort by a comparison of real keys puts a position of least key first. -/
theorem sorted_head_le {n : Nat} (f : Fin n → EReal) (before : Fin n → Fin n → Bool)
    (hb : ∀ k k', before k k' = decide (f k < f k')) (z : Fin n) (hz : z.val = 0) (q : Fin n) :
    f (sortedFrom before z) ≤ f q := by
  obtain ⟨j, rfl⟩ := sortedFrom_surjective before q
  rcases Nat.eq_zero_or_pos j.val with h0 | hpos
  · rw [show j = z from Fin.ext (h0.trans hz.symm)]
  · have h := sortedFrom_noInversion before before
      (fun a b hab => by rw [hb] at hab ⊢; exact decide_eq_false (not_lt.mpr (of_decide_eq_true hab).le))
      (fun _ _ h => h)
      (fun a b c hab hbc => by
        rw [hb] at hab hbc ⊢
        exact decide_eq_false (not_lt.mpr ((not_lt.mp (of_decide_eq_false hbc)).trans (not_lt.mp (of_decide_eq_false hab)))))
      z j (Fin.lt_def.mpr (hz ▸ hpos))
    rw [hb] at h
    exact not_lt.mp (of_decide_eq_false h)

/-- The reference's comparison of two (distance, number) pairs is that of the two distances. -/
theorem comparator_eq (l r : EReal × BitVec 32) :
    comparator_f32_i32_d1 (F := Ideal) l r = BitVec.ofBool (decide (l.1 < r.1)) := by
  have hz : ∀ a : EReal, Scalar.select (Ideal.cmp .une a a) (Ideal.ofBits .f32 0x7FC00000#32)
      (Scalar.select (Ideal.cmp .oeq a (Ideal.ofBits .f32 0x00000000#32)) (Ideal.ofBits .f32 0x00000000#32) a) = a := by
    intro a
    have hne : Ideal.cmp .une a a = 0#1 := by simp [Ideal.cmp]
    rw [hne]
    show Scalar.select (Ideal.cmp .oeq a (Ideal.ofBits .f32 0x00000000#32)) (Ideal.ofBits .f32 0x00000000#32) a = a
    by_cases h : a = Ideal.ofBits .f32 0x00000000#32
    · rw [show Ideal.cmp .oeq a (Ideal.ofBits .f32 0x00000000#32) = 1#1 by simp [Ideal.cmp, h]]
      exact h.symm
    · rw [show Ideal.cmp .oeq a (Ideal.ofBits .f32 0x00000000#32) = 0#1 from congrArg BitVec.ofBool (decide_eq_false h)]
      rfl
  show Ideal.cmp .olt (Scalar.select (Ideal.cmp .une l.1 l.1) (Ideal.ofBits .f32 0x7FC00000#32)
      (Scalar.select (Ideal.cmp .oeq l.1 (Ideal.ofBits .f32 0x00000000#32)) (Ideal.ofBits .f32 0x00000000#32) l.1))
    (Scalar.select (Ideal.cmp .une r.1 r.1) (Ideal.ofBits .f32 0x7FC00000#32)
      (Scalar.select (Ideal.cmp .oeq r.1 (Ideal.ofBits .f32 0x00000000#32)) (Ideal.ofBits .f32 0x00000000#32) r.1)) = _
  rw [hz, hz]
  rfl

/-! ## The distances and the first column number -/

variable (x : S262144x1.Idx → EReal) (L : S256.Idx → EReal)

/-- The distances of `tanh x` from the table's entries, a row for each element of `x`. -/
def distances : FVec Ideal S262144x256 .f32 :=
  Host.absf (F := Ideal) (φ := .f32) (subf (F := Ideal) (φ := .f32)
    (broadcastInDim S262144x256 ![0, 1] bcast_S1x256_S262144x256_0_1 (broadcastInDim S1x256 ![1] bcast_S256_S1x256_1 L))
    (broadcastInDim S262144x256 ![0, 1] bcast_S262144x1_S262144x256_0_1 (Host.tanh (F := Ideal) (φ := .f32) x)))

/-- One distance: the absolute value of an entry less the hyperbolic tangent of an element. -/
theorem distances_apply (p : Fin 262144) (q : Fin 256) :
    distances x L (ij p q)
      = max (L (Shape.Idx.ofFin q) - Ideal.tanh (x (ixP p))) (-(L (Shape.Idx.ofFin q) - Ideal.tanh (x (ixP p)))) := by
  show max (broadcastInDim S262144x256 ![0, 1] bcast_S1x256_S262144x256_0_1 (broadcastInDim S1x256 ![1] bcast_S256_S1x256_1 L) (ij p q)
      - broadcastInDim S262144x256 ![0, 1] bcast_S262144x1_S262144x256_0_1 (Host.tanh (F := Ideal) (φ := .f32) x) (ij p q))
    (-(broadcastInDim S262144x256 ![0, 1] bcast_S1x256_S262144x256_0_1 (broadcastInDim S1x256 ![1] bcast_S256_S1x256_1 L) (ij p q)
      - broadcastInDim S262144x256 ![0, 1] bcast_S262144x1_S262144x256_0_1 (Host.tanh (F := Ideal) (φ := .f32) x) (ij p q))) = _
  rw [bcast_cols, bcast_of_col]
  rfl

/-- The order of row `p`'s columns by distance, as a relation of two columns. -/
def before (p : Fin 262144) (k k' : Fin 256) : Bool := decide (distances x L (ij p k) < distances x L (ij p k'))

/-- The column that comes first in row `p` sorted by distance. -/
def first (p : Fin 262144) : Fin 256 := sortedFrom (before x L p) 0

/-- The first column's distance is the row's least. -/
theorem first_le (p : Fin 262144) (q : Fin 256) : distances x L (ij p (first x L p)) ≤ distances x L (ij p q) :=
  sorted_head_le (fun k => distances x L (ij p k)) (before x L p) (fun _ _ => rfl) 0 rfl q

/-- The sorted column numbers' first column, as a vector. -/
def numbers : IVec S262144 32 :=
  shapeCast S262144 (extractStridedSlice S262144x1 ![0, 0]
    ((Host.sort2 S262144x256 1 (comparator_f32_i32_d1 (F := Ideal)) (distances x L) (iotaInDim S262144x256 32 1)).2)
    slices_S262144x256_S262144x1_0_0) shapeCasts_S262144x1_S262144

theorem along_ij (p : Fin 262144) (q k : Fin 256) :
    Shape.Idx.along (s := S262144x256) (ij p q) (1 : Fin 2) k = (ij p k : S262144x256.Idx) := by
  funext b
  match b with
  | ⟨0, _⟩ => exact Function.update_of_ne (Fin.ne_of_val_ne Nat.zero_ne_one) _ _
  | ⟨1, _⟩ => exact Function.update_self _ _ _

/-- Its entry at `p` is the number of row `p`'s first column. -/
theorem numbers_apply (p : Fin 262144) : numbers x L (Shape.Idx.ofFin p) = BitVec.ofNat 32 (first x L p).val := by
  unfold numbers
  rw [shapeCast_apply _ _ _ (ixP p : S262144x1.Idx) (by rw [Shape.rowMajor_val_two, Shape.rowMajor_val_one]; exact Nat.mul_one _ ▸ rfl)]
  have hs : extractStridedSlice S262144x1 ![0, 0]
      ((Host.sort2 S262144x256 1 (comparator_f32_i32_d1 (F := Ideal)) (distances x L) (iotaInDim S262144x256 32 1)).2)
      slices_S262144x256_S262144x1_0_0 (ixP p)
      = (Host.sort2 S262144x256 1 (comparator_f32_i32_d1 (F := Ideal)) (distances x L) (iotaInDim S262144x256 32 1)).2
        (ij p 0) := by
    unfold extractStridedSlice
    refine congrArg _ (funext fun a => Fin.ext ?_)
    match a with
    | ⟨0, _⟩ => exact Nat.zero_add _
    | ⟨1, _⟩ => rfl
  rw [hs]
  unfold Host.sort2
  rw [dif_pos (show 1 < S262144x256.rank by decide)]
  have hu : ∀ k : Fin 256, (Shape.Idx.along (s := S262144x256) (ij p 0) (1 : Fin 2) k (1 : Fin 2)).val = k.val := fun k => by
    rw [along_ij]
  refine congrArg (BitVec.ofNat 32) ((hu _).trans ?_)
  have hR : ∀ k k' : Fin 256, (comparator_f32_i32_d1 (F := Ideal)
      (distances x L (Shape.Idx.along (s := S262144x256) (ij p 0) (1 : Fin 2) k), iotaInDim S262144x256 32 1 (Shape.Idx.along (s := S262144x256) (ij p 0) (1 : Fin 2) k))
      (distances x L (Shape.Idx.along (s := S262144x256) (ij p 0) (1 : Fin 2) k'), iotaInDim S262144x256 32 1 (Shape.Idx.along (s := S262144x256) (ij p 0) (1 : Fin 2) k')) == 1#1)
      = before x L p k k' := fun k k' => by
    rw [along_ij, along_ij, comparator_eq]
    unfold before
    cases h : decide (distances x L (ij p k) < distances x L (ij p k')) <;> rfl
  exact congrArg (fun R => (sortedFrom (n := 256) R 0).val) (funext fun k => funext fun k' => hR k k')

/-! ## The take -/

/-- The table's entries at a vector of numbers: a negative number counts from the end, one out of range gives the
    not-a-number constant. -/
def taken (W : IVec S262144 32) : FVec Ideal S262144 .f32 :=
  select (Host.reduce IntOp.andi
      (andi (cmpi .sge (broadcastInDim S262144x1 ![0] bcast_S262144_S262144x1_0
          (select (cmpi .slt W (broadcastInDim S262144 ![] bcast_S_S262144 (constantI S_ 32 0#32)))
            (addi W (broadcastInDim S262144 ![] bcast_S_S262144 (constantI S_ 32 256#32))) W))
          (broadcastInDim S262144x1 ![] bcast_S_S262144x1 (constantI S_ 32 0#32)))
        (cmpi .sle (broadcastInDim S262144x1 ![0] bcast_S262144_S262144x1_0
          (select (cmpi .slt W (broadcastInDim S262144 ![] bcast_S_S262144 (constantI S_ 32 0#32)))
            (addi W (broadcastInDim S262144 ![] bcast_S_S262144 (constantI S_ 32 256#32))) W))
          (broadcastInDim S262144x1 ![0, 1] bcast_S1x1_S262144x1_0_1 (broadcastInDim S1x1 ![1] bcast_S1_S1x1_1 (constantI S1 32 255#32)))))
      (constantI S_ 1 1#1) reducesTo_S262144x1_S262144_d1 h_S_)
    (Host.gather gather_S256_S262144x1_S262144_n_0_n_n_0_1_1 L (broadcastInDim S262144x1 ![0] bcast_S262144_S262144x1_0
      (select (cmpi .slt W (broadcastInDim S262144 ![] bcast_S_S262144 (constantI S_ 32 0#32)))
        (addi W (broadcastInDim S262144 ![] bcast_S_S262144 (constantI S_ 32 256#32))) W)))
    (broadcastInDim S262144 ![] bcast_S_S262144 (constant S_ .f32 0x7FC00000#32))

/-- Every index of a column is that of a row. -/
theorem column_index (i : S262144x1.Idx) : ∃ p : Fin 262144, i = ixP p :=
  ⟨i 0, by funext b; match b with | ⟨0, _⟩ => rfl | ⟨1, _⟩ => exact Subsingleton.elim (α := Fin 1) _ _⟩

/-- Every index of a vector is that of a position. -/
theorem vector_index {n : Nat} (i : (⟨1, ![n]⟩ : Shape).Idx) : ∃ p : Fin n, i = Shape.Idx.ofFin p :=
  ⟨i 0, by funext b; match b with | ⟨0, _⟩ => rfl⟩

/-- Where every number is in range, the take reads the table there. -/
theorem taken_apply (W : IVec S262144 32) (h : Fin 262144 → Fin 256) (hW : ∀ p, W (Shape.Idx.ofFin p) = BitVec.ofNat 32 (h p).val)
    (p : Fin 262144) : taken L W (Shape.Idx.ofFin p) = L (Shape.Idx.ofFin (h p)) := by
  have hsel : select (cmpi .slt W (broadcastInDim S262144 ![] bcast_S_S262144 (constantI S_ 32 0#32)))
      (addi W (broadcastInDim S262144 ![] bcast_S_S262144 (constantI S_ 32 256#32))) W = W := by
    funext i
    obtain ⟨p, rfl⟩ := vector_index i
    show Scalar.select (IntOp.cmpi .slt (W (Shape.Idx.ofFin p)) 0#32) (IntOp.addi (W (Shape.Idx.ofFin p)) 256#32) (W (Shape.Idx.ofFin p)) = _
    have h0 : IntOp.cmpi .slt (W (Shape.Idx.ofFin p)) 0#32 = 0#1 := by
      rw [hW]
      rcases BitVec.eq_zero_or_eq_one (IntOp.cmpi .slt (BitVec.ofNat 32 (h p).val) 0#32) with e | e
      · exact e
      · exact absurd ((slt_ofNat_iff (h p).val 0 (by have := (h p).isLt; omega) (by decide)).1 e) (Nat.not_lt_zero _)
    rw [h0]
    rfl
  have hcol : ∀ p, broadcastInDim S262144x1 ![0] bcast_S262144_S262144x1_0 W (ixP p) = BitVec.ofNat 32 (h p).val :=
    fun p => (bcast_col1 _ W p).trans (hW p)
  unfold taken
  rw [hsel]
  show Scalar.select (Host.reduce IntOp.andi _ _ _ _ (Shape.Idx.ofFin p)) (Host.gather _ L _ (Shape.Idx.ofFin p)) _ = _
  rw [Host.reduce_andi_one _ _ _ _ _ rfl ?_]
  · show Host.gather _ L _ (Shape.Idx.ofFin p) = _
    rw [gather_take gather_S256_S262144x1_S262144_n_0_n_n_0_1_1 rfl rfl rfl rfl L _ p (by decide)]
    refine congrArg (fun k => L (Shape.Idx.ofFin k)) (Fin.ext ?_)
    show min (broadcastInDim S262144x1 ![0] bcast_S262144_S262144x1_0 W (ixP p)).toInt.toNat (256 - 1) = (h p).val
    have := (h p).isLt
    rw [hcol, toInt_ofNat_small _ (by omega), Int.toNat_natCast]
    omega
  · intro i
    obtain ⟨p, rfl⟩ := column_index i
    have := (h p).isLt
    show IntOp.andi (IntOp.cmpi .sge (broadcastInDim S262144x1 ![0] bcast_S262144_S262144x1_0 W (ixP p)) 0#32)
      (IntOp.cmpi .sle (broadcastInDim S262144x1 ![0] bcast_S262144_S262144x1_0 W (ixP p)) 255#32) = 1#1
    rw [hcol]
    refine IntOp.andi_eq_one.2 ⟨(sle_ofNat_iff 0 (h p).val (by decide) (by omega)).2 (Nat.zero_le _),
      (sle_ofNat_iff (h p).val 255 (by omega) (by decide)).2 (by omega)⟩

/-! ## The two results -/

variable (m : (ℓ : Loc nD τ sig) → Buf (Elt Ideal) ℓ) (c : Dev nD)

/-- The second result at row `p`: the number of the first column. -/
theorem numbers_column (p : Fin 262144) :
    broadcastInDim S262144x1 ![0] bcast_S262144_S262144x1_0 (numbers x L) (ixP p) = BitVec.ofNat 32 (first x L p).val :=
  (bcast_col1 _ _ p).trans (numbers_apply x L p)

/-- The straight-through value at row `p`, `tanh x + (entry - tanh x)`: the table's entry at the first column, where that is
    a real number. -/
theorem through_apply (p : Fin 262144) (r : ℝ) (hr : L (Shape.Idx.ofFin (first x L p)) = (r : EReal)) :
    addf (F := Ideal) (φ := .f32) (Host.tanh (F := Ideal) (φ := .f32) x)
      (subf (F := Ideal) (φ := .f32) (broadcastInDim S262144x1 ![0] bcast_S262144_S262144x1_0 (taken L (numbers x L)))
        (Host.tanh (F := Ideal) (φ := .f32) x)) (ixP p) = (r : EReal) := by
  have hb : broadcastInDim S262144x1 ![0] bcast_S262144_S262144x1_0 (taken L (numbers x L)) (ixP p) = (r : EReal) :=
    ((bcast_col1 _ _ p).trans (taken_apply L _ (first x L) (numbers_apply x L) p)).trans hr
  show Ideal.tanh (x (ixP p)) + (broadcastInDim S262144x1 ![0] bcast_S262144_S262144x1_0 (taken L (numbers x L)) (ixP p)
    - Ideal.tanh (x (ixP p))) = _
  rw [hb]
  generalize x (ixP p) = a
  rw [Quantise.tanh_eq, ← EReal.coe_sub, ← EReal.coe_add]
  exact congrArg _ (add_sub_cancel _ r)

/-- The first result is the straight-through value of the two arguments. -/
theorem quantised_eq :
    (Value.res_out0 (F := Ideal) m c : S262144x1.Idx → EReal)
      = addf (F := Ideal) (φ := .f32) (Host.tanh (F := Ideal) (φ := .f32) (m ((c.tc : Thread nD τ).loc main_arg0)))
        (subf (F := Ideal) (φ := .f32) (broadcastInDim S262144x1 ![0] bcast_S262144_S262144x1_0
          (taken (m ((c.tc : Thread nD τ).loc main_arg1))
            (numbers (m ((c.tc : Thread nD τ).loc main_arg0)) (m ((c.tc : Thread nD τ).loc main_arg1)))))
          (Host.tanh (F := Ideal) (φ := .f32) (m ((c.tc : Thread nD τ).loc main_arg0)))) := rfl

end Cert.Proof.Reference

end
-- ==== Proof.Inputs.lean ====
/-
  What the claim's condition on the inputs says, at exact real arithmetic: the table's entries are the 256 evenly spaced
  levels from -1 to 1 (`table_eq`), and in every row of distances the least one is met at one column only
  (`least_unique`).
-/
module

public import proofs.«01_k».proof.Proof.Reference
public import proofs.«01_k».proof.Proof.Gen.Pre_quantiser_inputs
public import Idealize.ShloMosaic.Lib.Pointwise.Select

@[expose] public section

noncomputable section

namespace Cert.Proof.Inputs

open Idealize.ShloMosaic Cert.Pre_quantiser_inputs Cert.Pre_quantiser_inputs.Gen
open Cert.Proof.Quantise (lv one_word top_word)
open Cert.Proof.Reference (distances)
open Idealize.ShloMosaic.StableHlo.Predicate (ij ixP bcast_rows toNat_reduce_count_cols toInt_ofNat_small cmpi_eq_iff ofBool_eq_one_iff)

/-! ## The printed table of levels -/

theorem minus_one_word : Ideal.ofBits .f32 0xBF800000#32 = ((-1 : ℝ) : EReal) := by
  simp [Ideal.ofBits, Ideal.ieee, -EReal.coe_mul]
  norm_num

theorem infinity_word : Ideal.ofBits .f32 0x7F800000#32 = ⊤ := by simp [Ideal.ofBits, Ideal.ieee]

/-- Entry `q` of 256 evenly spaced numbers from -1 to 1 is level `q`. -/
theorem linspace_apply (q : Fin 256) :
    (fn_linspace (F := Ideal) (constant S_ .f32 0xBF800000#32) (constant S_ .f32 0x3F800000#32) : S256.Idx → EReal) (Shape.Idx.ofFin q)
      = ((lv q : ℝ) : EReal) := by
  unfold fn_linspace
  dsimp only
  rw [concatenate_pair_apply]
  by_cases h : q.val < 255
  · refine (dif_pos h).trans ?_
    show Ideal.ofBits .f32 0xBF800000#32
        * (Ideal.ofBits .f32 0x3F800000#32 - Ideal.div (((BitVec.ofNat 32 q.val).toInt : ℝ) : EReal) (Ideal.ofBits .f32 0x437F0000#32))
      + Ideal.ofBits .f32 0x3F800000#32 * Ideal.div (((BitVec.ofNat 32 q.val).toInt : ℝ) : EReal) (Ideal.ofBits .f32 0x437F0000#32) = _
    rw [minus_one_word, one_word, top_word, toInt_ofNat_small _ (by omega), Ideal.div_coe (by norm_num), ← EReal.coe_mul, ← EReal.coe_sub,
      ← EReal.coe_mul, ← EReal.coe_mul, ← EReal.coe_add]
    refine congrArg _ ?_
    unfold lv
    push_cast
    ring
  · refine (dif_neg h).trans ?_
    show Ideal.ofBits .f32 0x3F800000#32 = _
    rw [one_word]
    refine congrArg _ ?_
    have hq : q.val = 255 := by have := q.isLt; omega
    unfold lv
    rw [hq]
    norm_num

/-! ## What the condition says -/

section

variable (x : S262144x1.Idx → EReal) (L : S256.Idx → EReal) (hpre : Cert.Pre_quantiser_inputs.fn (F := Ideal) x L = fun _ => 1#1)

/-- The two parts of the condition, each a conjunction over an array. -/
theorem parts (i : S_.Idx) (hpre : Cert.Pre_quantiser_inputs.fn (F := Ideal) x L = fun _ => 1#1) :
    Host.reduce IntOp.andi (cmpf (F := Ideal) (φ := .f32) .oeq L
        (fn_linspace (F := Ideal) (constant S_ .f32 0xBF800000#32) (constant S_ .f32 0x3F800000#32))) (constantI S_ 1 1#1)
        reducesTo_S256_S_d0 h_S_ i = 1#1
    ∧ Host.reduce IntOp.andi (cmpi .eq
        (Host.reduce IntOp.addi (extui 32 (cmpf (F := Ideal) (φ := .f32) .oeq (distances x L)
            (broadcastInDim S262144x256 ![0, 1] bcast_S262144x1_S262144x256_0_1
              (broadcastInDim S262144x1 ![0] bcast_S262144_S262144x1_0
                (Host.reduce (FloatOps.minimumf (F := Ideal) (φ := .f32)) (distances x L) (constant S_ .f32 0x7F800000#32)
                  reducesTo_S262144x256_S262144_d1 h_S_)))) natLt_1_32) (constantI S_ 32 0#32) reducesTo_S262144x256_S262144_d1 h_S_)
        (broadcastInDim S262144 ![] bcast_S_S262144 (constantI S_ 32 1#32))) (constantI S_ 1 1#1) reducesTo_S262144_S_d0 h_S_ i = 1#1 :=
  IntOp.andi_eq_one.1 (congrFun hpre i)

include hpre

/-- The table's entries are the levels. -/
theorem table_eq (q : Fin 256) : L (Shape.Idx.ofFin q) = ((lv q : ℝ) : EReal) := by
  have h := Host.reduce_andi_eq_one _ _ _ _ _ (parts x L (Shape.Idx.first h_S_) hpre).1 (Shape.Idx.ofFin q)
    (funext fun a => Fin.elim0 a)
  have he : Ideal.cmp .oeq (L (Shape.Idx.ofFin q)) _ = 1#1 := h
  exact (of_decide_eq_true ((ofBool_eq_one_iff _).1 he)).trans (linspace_apply q)

/-- The least distance of a row. -/
theorem least_eq (p : Fin 262144) (k : Fin 256) (hk : ∀ q, distances x L (ij p k) ≤ distances x L (ij p q)) :
    Host.reduce (FloatOps.minimumf (F := Ideal) (φ := .f32)) (distances x L) (constant (F := Ideal) S_ .f32 0x7F800000#32)
      reducesTo_S262144x256_S262144_d1 h_S_ (Shape.Idx.ofFin p) = distances x L (ij p k) := by
  have hr : S262144x256.Reduces [1] S262144 := by decide
  have hl : ∀ q : Fin 256, hr.lift (Shape.Idx.ofFin p) q = (ij p q : S262144x256.Idx) := fun q => by
    funext b
    match b with
    | ⟨0, _⟩ => rfl
    | ⟨1, _⟩ => rfl
  rw [Host.reduce_eq_fold_single _ _ _ _ hr]
  show (Finset.univ : Finset (Fin 256)).fold min (Ideal.ofBits .f32 0x7F800000#32) (fun q => distances x L (hr.lift (Shape.Idx.ofFin p) q)) = _
  rw [infinity_word]
  refine le_antisymm ((Finset.fold_min_le _).2 (Or.inr ⟨k, Finset.mem_univ _, (congrArg (distances x L) (hl k)).le⟩))
    ((Finset.le_fold_min _).2 ⟨le_top, fun q _ => ?_⟩)
  exact (hk q).trans_eq (congrArg (distances x L) (hl q).symm)

/-- One column only has the least distance of its row. -/
theorem least_unique (p : Fin 262144) (k k' : Fin 256) (hk : ∀ q, distances x L (ij p k) ≤ distances x L (ij p q))
    (hk' : ∀ q, distances x L (ij p k') ≤ distances x L (ij p q)) : k = k' := by
  have h := Host.reduce_andi_eq_one _ _ _ _ _ (parts x L (Shape.Idx.first h_S_) hpre).2 (Shape.Idx.ofFin p)
    (funext fun a => Fin.elim0 a)
  have hc := congrArg BitVec.toNat (cmpi_eq_iff.1 h)
  rw [toNat_reduce_count_cols (by decide)] at hc
  have hc1 : Finset.card _ = 1 := hc
  obtain ⟨u, hu⟩ := Finset.card_eq_one.1 hc1
  have hmem : ∀ j : Fin 256, (∀ q, distances x L (ij p j) ≤ distances x L (ij p q)) → j = u := fun j hj => by
    refine Finset.mem_singleton.1 (hu ▸ Finset.mem_filter.2 ⟨Finset.mem_univ _, ?_⟩)
    show Ideal.cmp .oeq (distances x L (ij p j)) _ = 1#1
    refine (ofBool_eq_one_iff _).2 (decide_eq_true ?_)
    exact (least_eq x L hpre p j hj).symm.trans (bcast_rows _ _ _ p j).symm
  rw [hmem k hk, hmem k' hk']

end

end Cert.Proof.Inputs

end
-- ==== Proof.Claims.lean ====
/-
  The claims. The kernel's two programs run to the end and leave their arguments as they were, by their runs; so does the
  reference. On inputs that satisfy the condition, at exact real arithmetic, the column the reference picks in a row is
  the level the kernel computes (`first_eq_pick`), so both results agree.
-/
module

public import proofs.«01_k».proof.Defs
public import proofs.«01_k».proof.Proof.BitsRun
public import proofs.«01_k».proof.Proof.IdealRun
public import proofs.«01_k».proof.Proof.Inputs

@[expose] public section

noncomputable section

namespace Cert.Proof.Claims

open Idealize.ShloMosaic Idealize.SL.Sem
open Cert.Proof.Quantise (lv place dist pick pick_min tanh_eq level_eq value_eq)
open Cert.Proof.Reference (distances distances_apply first first_le numbers taken numbers_column through_apply quantised_eq column_index)
open Cert.Proof.IdealRun (valuesOut levelsOut flat values levels value level)
open Idealize.ShloMosaic.StableHlo.Predicate (ij ixP)

/-! ## The two programs pick the same level -/

section

variable (x : Cert.ReferenceIdeal.S262144x1.Idx → EReal) (L : Cert.ReferenceIdeal.S256.Idx → EReal)

/-- The greater of a difference and its negation is the absolute difference. -/
theorem greater_eq_abs (r s : ℝ) : max ((r : EReal) - s) (-((r : EReal) - s)) = ((|r - s| : ℝ) : EReal) := by
  rw [← EReal.coe_sub, ← EReal.coe_neg, abs_eq_max_neg]
  exact (EReal.coe_strictMono.monotone.map_max).symm

/-- With the levels in the table, the reference's distances are those from the levels to `tanh x`. -/
theorem distances_eq (hL : ∀ q, L (Shape.Idx.ofFin q) = ((lv q : ℝ) : EReal)) (p : Fin 262144) (q : Fin 256) :
    distances x L (ij p q) = ((dist (x (ixP p)) q : ℝ) : EReal) := by
  rw [distances_apply, hL, tanh_eq]
  exact greater_eq_abs _ _

/-- Under the condition, the reference's column in row `p` is the level the kernel computes from the row's entry. -/
theorem first_eq_pick (hpre : Cert.Pre_quantiser_inputs.fn (F := Ideal) x L = fun _ => 1#1) (p : Fin 262144) :
    first x L p = pick (x (ixP p)) := by
  refine Inputs.least_unique x L hpre p _ _ (first_le x L p) fun q => ?_
  rw [distances_eq x L (Inputs.table_eq x L hpre), distances_eq x L (Inputs.table_eq x L hpre)]
  exact EReal.coe_le_coe_iff.2 (pick_min _ q)

end

/-! ## The kernel's results at a row -/

/-- Row `p` of the column and entry `p` of the vector have the same place. -/
theorem row_place (p : Fin 262144) :
    (Cert.KernelIdeal.S262144x1.rowMajor (ixP p)).val = (Cert.KernelIdeal.S262144.rowMajor (Shape.Idx.ofFin p)).val := by
  rw [Shape.rowMajor_val_two, Shape.rowMajor_val_one]
  exact Nat.mul_one _

section

variable (m : (ℓ : Loc Cert.KernelIdeal.nD Cert.KernelIdeal.τ Cert.KernelIdeal.sig) → Buf (Elt Ideal) ℓ) (c : Dev Cert.KernelIdeal.nD)

/-- The kernel's argument, by row. -/
abbrev arg : Cert.KernelIdeal.S262144x1.Idx → EReal :=
  m ((c.tc : Thread Cert.KernelIdeal.nD Cert.KernelIdeal.τ).loc Cert.KernelIdeal.main_arg0)

theorem flat_apply (p : Fin 262144) : flat m c (Shape.Idx.ofFin p) = arg m c (ixP p) :=
  shapeCast_apply _ _ _ _ (row_place p)

theorem valuesOut_apply (p : Fin 262144) : valuesOut m c (ixP p) = ((lv (pick (arg m c (ixP p))) : ℝ) : EReal) := by
  have h : valuesOut m c (ixP p) = values (flat m c) (Shape.Idx.ofFin p) :=
    shapeCast_apply _ _ _ _ (row_place p).symm
  rw [h]
  exact (congrArg (value (F := Ideal)) (flat_apply m c p)).trans (value_eq _)

theorem levelsOut_apply (p : Fin 262144) : levelsOut m c (ixP p) = BitVec.ofNat 32 (pick (arg m c (ixP p))).val := by
  have h : levelsOut m c (ixP p) = levels (flat m c) (Shape.Idx.ofFin p) :=
    shapeCast_apply _ _ _ _ (row_place p).symm
  rw [h]
  exact (congrArg (level (F := Ideal)) (flat_apply m c p)).trans (level_eq _)

end

/-! ## The runs -/

theorem frame_kernel : Cert.quiescent_Kernel := fun m ρ _ =>
  (θ_run _ _ _).mono (fun _ h => ⟨fun c => ⟨(h.1 c).1, (h.1 c).2.1⟩, h.2⟩) (BitsRun.run_main (F := Bits) m ρ)

theorem frame_kernel_ideal : Cert.quiescent_KernelIdeal := fun m ρ _ =>
  (θ_run _ _ _).mono (fun _ h => ⟨fun c => ⟨(h.1 c).1, (h.1 c).2.1⟩, h.2⟩) (IdealRun.run_main (F := Ideal) m ρ)

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The constant named `"step"` is the rational 2/255 at exact arithmetic. -/
theorem preserves : Cert.preserves_Kernel_KernelIdeal :=
  IdealRules.named_const.statement Cert.KernelIdeal.κ "step" .f32 0x3C008081#32 ((2 / 255 : ℝ) : EReal) rfl

/-- On inputs satisfying the condition the kernel and the reference end with equal results, both of them. -/
theorem algebraic : Cert.algebraic_KernelIdeal_ReferenceIdeal_pre_quantiser_inputs := fun m ρ m' ρ' hpre hagree => by
  refine ⟨fun c => valuesOut m c, fun c => levelsOut m c,
    (θ_run _ _ _).mono (fun _ h c => ⟨(h.1 c).2.2.1, (h.1 c).2.2.2, (h.1 c).1, (h.1 c).2.1⟩) (IdealRun.run_main (F := Ideal) m ρ),
    (θ_run Cert.ReferenceIdeal.defs _ _).mono (fun _ h c => ⟨(h c).1.trans ?_, (h c).2.1.trans ?_, (h c).2.2.1, (h c).2.2.2⟩)
      (Cert.ReferenceIdeal.Value.run (F := Ideal) m' ρ')⟩
  · refine (quantised_eq m' c).trans ?_
    rw [(hagree c).1, (hagree c).2]
    refine funext fun i => ?_
    obtain ⟨p, rfl⟩ := column_index i
    refine (through_apply _ _ p _ (Inputs.table_eq _ _ (hpre c) _)).trans ?_
    rw [first_eq_pick _ _ (hpre c) p]
    exact (valuesOut_apply m c p).symm
  · rw [(hagree c).1, (hagree c).2]
    refine funext fun i => ?_
    obtain ⟨p, rfl⟩ := column_index i
    refine (numbers_column _ _ p).trans ?_
    rw [first_eq_pick _ _ (hpre c) p]
    exact (levelsOut_apply m c p).symm

end Cert.Proof.Claims

end
-- ==== Proof.lean ====
/-
  The certificate. The kernel's two programs run to the end with their arguments unchanged, as does the reference; the
  constant named `"step"` has its stated value; and on inputs that satisfy the condition the kernel and the reference end
  with equal results at exact real arithmetic. Each part is a theorem of `Proof/Claims.lean`.
-/
module

public import proofs.«01_k».proof.Proof.Claims

@[expose] public section

noncomputable section

namespace Cert.Proof

open Idealize.ShloMosaic Cert.Proof.Claims

/-- Everything the certificate claims. The condition plays no part in the runs, so each run serves with it and without. -/
theorem claim : Cert.Claim :=
  ⟨Cert.Kernel.Gen.facts, Cert.KernelIdeal.Gen.facts, Cert.ReferenceIdeal.Gen.facts, Cert.Pre_quantiser_inputs.Gen.facts,
    frame_kernel, frame_kernel_ideal, fun m ρ _ => frame_kernel_ideal m ρ trivial, frame_reference,
    fun m ρ _ => frame_reference m ρ trivial, preserves, algebraic⟩

end Cert.Proof

end
